-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightMathIdeal (m : (ℓ : Loc Cert.InWeightMathIdeal.nD Cert.InWeightMathIdeal.τ Cert.InWeightMathIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputMathIdeal (m : (ℓ : Loc Cert.InInputMathIdeal.nD Cert.InInputMathIdeal.τ Cert.InInputMathIdeal.sig) → Buf (Elt Ideal) ℓ) : Prop :=
  True

def Pre_GateInput (m : (ℓ : Loc Cert.GateInput.nD Cert.GateInput.τ Cert.GateInput.sig) → Buf (Elt Bits) ℓ) : Prop :=
  True

def Pre_GateInputIdeal (m : (ℓ : Loc Cert.GateInputIdeal.nD Cert.GateInputIdeal.τ Cert.GateInputIdeal.sig) → Buf (Elt Ideal) ℓ) : Prop :=
  True

def Pre_GateInputMathIdeal (m : (ℓ : Loc Cert.GateInputMathIdeal.nD Cert.GateInputMathIdeal.τ Cert.GateInputMathIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightMathIdeal (m : (ℓ : Loc Cert.OutWeightMathIdeal.nD Cert.OutWeightMathIdeal.τ Cert.OutWeightMathIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputMathIdeal (m : (ℓ : Loc Cert.OutInputMathIdeal.nD Cert.OutInputMathIdeal.τ Cert.OutInputMathIdeal.sig) → Buf (Elt Ideal) ℓ) : Prop :=
  True

def Pre_InForward (m : (ℓ : Loc Cert.InForward.nD Cert.InForward.τ Cert.InForward.sig) → Buf (Elt Bits) ℓ) : Prop :=
  True

def Pre_InForwardIdeal (m : (ℓ : Loc Cert.InForwardIdeal.nD Cert.InForwardIdeal.τ Cert.InForwardIdeal.sig) → Buf (Elt Ideal) ℓ) : Prop :=
  True

def Pre_InForwardMathIdeal (m : (ℓ : Loc Cert.InForwardMathIdeal.nD Cert.InForwardMathIdeal.τ Cert.InForwardMathIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendMathIdeal (m : (ℓ : Loc Cert.AttendMathIdeal.nD Cert.AttendMathIdeal.τ Cert.AttendMathIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightMathIdeal [hInWeightMathIdeal : Cert.InWeightMathIdeal.Facts] : Prop :=
  ∀ (m : (ℓ : Loc Cert.InWeightMathIdeal.nD Cert.InWeightMathIdeal.τ Cert.InWeightMathIdeal.sig) → Buf (Elt Ideal) ℓ) (g : Dev Cert.InWeightMathIdeal.nD → PrngReg), Pre_InWeightMathIdeal m →
    θ_run (Cert.InWeightMathIdeal.defs (F := Ideal)) (onTc (τ := Cert.InWeightMathIdeal.τ) (Cert.InWeightMathIdeal.main (F := Ideal))) ⟨m, fun _ => 0, g⟩ (fun r => (∀ c : Dev Cert.InWeightMathIdeal.nD,
      r.2.mem ((c.tc : Thread Cert.InWeightMathIdeal.nD Cert.InWeightMathIdeal.τ).loc Cert.InWeightMathIdeal.main_arg0) = m ((c.tc : Thread Cert.InWeightMathIdeal.nD Cert.InWeightMathIdeal.τ).loc Cert.InWeightMathIdeal.main_arg0)
      ∧ r.2.mem ((c.tc : Thread Cert.InWeightMathIdeal.nD Cert.InWeightMathIdeal.τ).loc Cert.InWeightMathIdeal.main_arg1) = m ((c.tc : Thread Cert.InWeightMathIdeal.nD Cert.InWeightMathIdeal.τ).loc Cert.InWeightMathIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputMathIdeal [hInInputMathIdeal : Cert.InInputMathIdeal.Facts] : Prop :=
  ∀ (m : (ℓ : Loc Cert.InInputMathIdeal.nD Cert.InInputMathIdeal.τ Cert.InInputMathIdeal.sig) → Buf (Elt Ideal) ℓ) (g : Dev Cert.InInputMathIdeal.nD → PrngReg), Pre_InInputMathIdeal m →
    θ_run (Cert.InInputMathIdeal.defs (F := Ideal)) (onTc (τ := Cert.InInputMathIdeal.τ) (Cert.InInputMathIdeal.main (F := Ideal))) ⟨m, fun _ => 0, g⟩ (fun r => (∀ c : Dev Cert.InInputMathIdeal.nD,
      r.2.mem ((c.tc : Thread Cert.InInputMathIdeal.nD Cert.InInputMathIdeal.τ).loc Cert.InInputMathIdeal.main_arg0) = m ((c.tc : Thread Cert.InInputMathIdeal.nD Cert.InInputMathIdeal.τ).loc Cert.InInputMathIdeal.main_arg0)
      ∧ r.2.mem ((c.tc : Thread Cert.InInputMathIdeal.nD Cert.InInputMathIdeal.τ).loc Cert.InInputMathIdeal.main_arg1) = m ((c.tc : Thread Cert.InInputMathIdeal.nD Cert.InInputMathIdeal.τ).loc Cert.InInputMathIdeal.main_arg1))
      ∧ r.2.sem = fun _ => 0)

def quiescent_GateInput [hGateInput : Cert.GateInput.Facts] : Prop :=
  ∀ (m : (ℓ : Loc Cert.GateInput.nD Cert.GateInput.τ Cert.GateInput.sig) → Buf (Elt Bits) ℓ) (g : Dev Cert.GateInput.nD → PrngReg), Pre_GateInput m →
    θ_run (Cert.GateInput.defs (F := Bits)) (onTc (τ := Cert.GateInput.τ) (Cert.GateInput.main (F := Bits))) ⟨m, fun _ => 0, g⟩ (fun r => (∀ c : Dev Cert.GateInput.nD,
      r.2.mem ((c.tc : Thread Cert.GateInput.nD Cert.GateInput.τ).loc Cert.GateInput.main_arg0) = m ((c.tc : Thread Cert.GateInput.nD Cert.GateInput.τ).loc Cert.GateInput.main_arg0)
      ∧ r.2.mem ((c.tc : Thread Cert.GateInput.nD Cert.GateInput.τ).loc Cert.GateInput.main_arg1) = m ((c.tc : Thread Cert.GateInput.nD Cert.GateInput.τ).loc Cert.GateInput.main_arg1)
      ∧ r.2.mem ((c.tc : Thread Cert.GateInput.nD Cert.GateInput.τ).loc Cert.GateInput.main_arg2) = m ((c.tc : Thread Cert.GateInput.nD Cert.GateInput.τ).loc Cert.GateInput.main_arg2))
      ∧ r.2.sem = fun _ => 0)

def quiescent_GateInputIdeal [hGateInputIdeal : Cert.GateInputIdeal.Facts] : Prop :=
  ∀ (m : (ℓ : Loc Cert.GateInputIdeal.nD Cert.GateInputIdeal.τ Cert.GateInputIdeal.sig) → Buf (Elt Ideal) ℓ) (g : Dev Cert.GateInputIdeal.nD → PrngReg), Pre_GateInputIdeal m →
    θ_run (Cert.GateInputIdeal.defs (F := Ideal)) (onTc (τ := Cert.GateInputIdeal.τ) (Cert.GateInputIdeal.main (F := Ideal))) ⟨m, fun _ => 0, g⟩ (fun r => (∀ c : Dev Cert.GateInputIdeal.nD,
      r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
      ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1)
      ∧ r.2.mem ((c.tc : Thread Cert.GateInputIdeal.nD Cert.GateInputIdeal.τ).loc Cert.GateInputIdeal.main_arg2) = m ((c.tc : Thread Cert.GateInputIdeal.nD Cert.GateInputIdeal.τ).loc Cert.GateInputIdeal.main_arg2))
      ∧ r.2.sem = fun _ => 0)

def quiescent_GateInputMathIdeal [hGateInputMathIdeal : Cert.GateInputMathIdeal.Facts] : Prop :=
  ∀ (m : (ℓ : Loc Cert.GateInputMathIdeal.nD Cert.GateInputMathIdeal.τ Cert.GateInputMathIdeal.sig) → Buf (Elt Ideal) ℓ) (g : Dev Cert.GateInputMathIdeal.nD → PrngReg), Pre_GateInputMathIdeal m →
    θ_run (Cert.GateInputMathIdeal.defs (F := Ideal)) (onTc (τ := Cert.GateInputMathIdeal.τ) (Cert.GateInputMathIdeal.main (F := Ideal))) ⟨m, fun _ => 0, g⟩ (fun r => (∀ c : Dev Cert.GateInputMathIdeal.nD,
      r.2.mem ((c.tc : Thread Cert.GateInputMathIdeal.nD Cert.GateInputMathIdeal.τ).loc Cert.GateInputMathIdeal.main_arg0) = m ((c.tc : Thread Cert.GateInputMathIdeal.nD Cert.GateInputMathIdeal.τ).loc Cert.GateInputMathIdeal.main_arg0)
      ∧ r.2.mem ((c.tc : Thread Cert.GateInputMathIdeal.nD Cert.GateInputMathIdeal.τ).loc Cert.GateInputMathIdeal.main_arg1) = m ((c.tc : Thread Cert.GateInputMathIdeal.nD Cert.GateInputMathIdeal.τ).loc Cert.GateInputMathIdeal.main_arg1)
      ∧ r.2.mem ((c.tc : Thread Cert.GateInputMathIdeal.nD Cert.GateInputMathIdeal.τ).loc Cert.GateInputMathIdeal.main_arg2) = m ((c.tc : Thread Cert.GateInputMathIdeal.nD Cert.GateInputMathIdeal.τ).loc Cert.GateInputMathIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightMathIdeal [hOutWeightMathIdeal : Cert.OutWeightMathIdeal.Facts] : Prop :=
  ∀ (m : (ℓ : Loc Cert.OutWeightMathIdeal.nD Cert.OutWeightMathIdeal.τ Cert.OutWeightMathIdeal.sig) → Buf (Elt Ideal) ℓ) (g : Dev Cert.OutWeightMathIdeal.nD → PrngReg), Pre_OutWeightMathIdeal m →
    θ_run (Cert.OutWeightMathIdeal.defs (F := Ideal)) (onTc (τ := Cert.OutWeightMathIdeal.τ) (Cert.OutWeightMathIdeal.main (F := Ideal))) ⟨m, fun _ => 0, g⟩ (fun r => (∀ c : Dev Cert.OutWeightMathIdeal.nD,
      r.2.mem ((c.tc : Thread Cert.OutWeightMathIdeal.nD Cert.OutWeightMathIdeal.τ).loc Cert.OutWeightMathIdeal.main_arg0) = m ((c.tc : Thread Cert.OutWeightMathIdeal.nD Cert.OutWeightMathIdeal.τ).loc Cert.OutWeightMathIdeal.main_arg0)
      ∧ r.2.mem ((c.tc : Thread Cert.OutWeightMathIdeal.nD Cert.OutWeightMathIdeal.τ).loc Cert.OutWeightMathIdeal.main_arg1) = m ((c.tc : Thread Cert.OutWeightMathIdeal.nD Cert.OutWeightMathIdeal.τ).loc Cert.OutWeightMathIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputMathIdeal [hOutInputMathIdeal : Cert.OutInputMathIdeal.Facts] : Prop :=
  ∀ (m : (ℓ : Loc Cert.OutInputMathIdeal.nD Cert.OutInputMathIdeal.τ Cert.OutInputMathIdeal.sig) → Buf (Elt Ideal) ℓ) (g : Dev Cert.OutInputMathIdeal.nD → PrngReg), Pre_OutInputMathIdeal m →
    θ_run (Cert.OutInputMathIdeal.defs (F := Ideal)) (onTc (τ := Cert.OutInputMathIdeal.τ) (Cert.OutInputMathIdeal.main (F := Ideal))) ⟨m, fun _ => 0, g⟩ (fun r => (∀ c : Dev Cert.OutInputMathIdeal.nD,
      r.2.mem ((c.tc : Thread Cert.OutInputMathIdeal.nD Cert.OutInputMathIdeal.τ).loc Cert.OutInputMathIdeal.main_arg0) = m ((c.tc : Thread Cert.OutInputMathIdeal.nD Cert.OutInputMathIdeal.τ).loc Cert.OutInputMathIdeal.main_arg0)
      ∧ r.2.mem ((c.tc : Thread Cert.OutInputMathIdeal.nD Cert.OutInputMathIdeal.τ).loc Cert.OutInputMathIdeal.main_arg1) = m ((c.tc : Thread Cert.OutInputMathIdeal.nD Cert.OutInputMathIdeal.τ).loc Cert.OutInputMathIdeal.main_arg1))
      ∧ r.2.sem = fun _ => 0)

def quiescent_InForward [hInForward : Cert.InForward.Facts] : Prop :=
  ∀ (m : (ℓ : Loc Cert.InForward.nD Cert.InForward.τ Cert.InForward.sig) → Buf (Elt Bits) ℓ) (g : Dev Cert.InForward.nD → PrngReg), Pre_InForward m →
    θ_run (Cert.InForward.defs (F := Bits)) (onTc (τ := Cert.InForward.τ) (Cert.InForward.main (F := Bits))) ⟨m, fun _ => 0, g⟩ (fun r => (∀ c : Dev Cert.InForward.nD,
      r.2.mem ((c.tc : Thread Cert.InForward.nD Cert.InForward.τ).loc Cert.InForward.main_arg0) = m ((c.tc : Thread Cert.InForward.nD Cert.InForward.τ).loc Cert.InForward.main_arg0)
      ∧ r.2.mem ((c.tc : Thread Cert.InForward.nD Cert.InForward.τ).loc Cert.InForward.main_arg1) = m ((c.tc : Thread Cert.InForward.nD Cert.InForward.τ).loc Cert.InForward.main_arg1))
      ∧ r.2.sem = fun _ => 0)

def quiescent_InForwardIdeal [hInForwardIdeal : Cert.InForwardIdeal.Facts] : Prop :=
  ∀ (m : (ℓ : Loc Cert.InForwardIdeal.nD Cert.InForwardIdeal.τ Cert.InForwardIdeal.sig) → Buf (Elt Ideal) ℓ) (g : Dev Cert.InForwardIdeal.nD → PrngReg), Pre_InForwardIdeal m →
    θ_run (Cert.InForwardIdeal.defs (F := Ideal)) (onTc (τ := Cert.InForwardIdeal.τ) (Cert.InForwardIdeal.main (F := Ideal))) ⟨m, fun _ => 0, g⟩ (fun r => (∀ c : Dev Cert.InForwardIdeal.nD,
      r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
      ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ r.2.sem = fun _ => 0)

def quiescent_InForwardMathIdeal [hInForwardMathIdeal : Cert.InForwardMathIdeal.Facts] : Prop :=
  ∀ (m : (ℓ : Loc Cert.InForwardMathIdeal.nD Cert.InForwardMathIdeal.τ Cert.InForwardMathIdeal.sig) → Buf (Elt Ideal) ℓ) (g : Dev Cert.InForwardMathIdeal.nD → PrngReg), Pre_InForwardMathIdeal m →
    θ_run (Cert.InForwardMathIdeal.defs (F := Ideal)) (onTc (τ := Cert.InForwardMathIdeal.τ) (Cert.InForwardMathIdeal.main (F := Ideal))) ⟨m, fun _ => 0, g⟩ (fun r => (∀ c : Dev Cert.InForwardMathIdeal.nD,
      r.2.mem ((c.tc : Thread Cert.InForwardMathIdeal.nD Cert.InForwardMathIdeal.τ).loc Cert.InForwardMathIdeal.main_arg0) = m ((c.tc : Thread Cert.InForwardMathIdeal.nD Cert.InForwardMathIdeal.τ).loc Cert.InForwardMathIdeal.main_arg0)
      ∧ r.2.mem ((c.tc : Thread Cert.InForwardMathIdeal.nD Cert.InForwardMathIdeal.τ).loc Cert.InForwardMathIdeal.main_arg1) = m ((c.tc : Thread Cert.InForwardMathIdeal.nD Cert.InForwardMathIdeal.τ).loc Cert.InForwardMathIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendMathIdeal [hAttendMathIdeal : Cert.AttendMathIdeal.Facts] : Prop :=
  ∀ (m : (ℓ : Loc Cert.AttendMathIdeal.nD Cert.AttendMathIdeal.τ Cert.AttendMathIdeal.sig) → Buf (Elt Ideal) ℓ) (g : Dev Cert.AttendMathIdeal.nD → PrngReg), Pre_AttendMathIdeal m →
    θ_run (Cert.AttendMathIdeal.defs (F := Ideal)) (onTc (τ := Cert.AttendMathIdeal.τ) (Cert.AttendMathIdeal.main (F := Ideal))) ⟨m, fun _ => 0, g⟩ (fun r => (∀ c : Dev Cert.AttendMathIdeal.nD,
      r.2.mem ((c.tc : Thread Cert.AttendMathIdeal.nD Cert.AttendMathIdeal.τ).loc Cert.AttendMathIdeal.main_arg0) = m ((c.tc : Thread Cert.AttendMathIdeal.nD Cert.AttendMathIdeal.τ).loc Cert.AttendMathIdeal.main_arg0)
      ∧ r.2.mem ((c.tc : Thread Cert.AttendMathIdeal.nD Cert.AttendMathIdeal.τ).loc Cert.AttendMathIdeal.main_arg1) = m ((c.tc : Thread Cert.AttendMathIdeal.nD Cert.AttendMathIdeal.τ).loc Cert.AttendMathIdeal.main_arg1)
      ∧ r.2.mem ((c.tc : Thread Cert.AttendMathIdeal.nD Cert.AttendMathIdeal.τ).loc Cert.AttendMathIdeal.main_arg2) = m ((c.tc : Thread Cert.AttendMathIdeal.nD Cert.AttendMathIdeal.τ).loc Cert.AttendMathIdeal.main_arg2))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InWeight_InWeightIdeal : Prop :=
  True

def algebraic_InWeightIdeal_InWeightMathIdeal [hInWeightIdeal : Cert.InWeightIdeal.Facts] [hInWeightMathIdeal : Cert.InWeightMathIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightMathIdeal.nD Cert.InWeightMathIdeal.τ Cert.InWeightMathIdeal.sig) → Buf (Elt Ideal) ℓ) (g' : Dev Cert.InWeightMathIdeal.nD → PrngReg), Pre_InWeightIdeal m →
    (∀ c : Dev Cert.InWeightIdeal.nD,
      m' ((c.tc : Thread Cert.InWeightMathIdeal.nD Cert.InWeightMathIdeal.τ).loc Cert.InWeightMathIdeal.main_arg0) = m ((c.tc : Thread Cert.InWeightIdeal.nD Cert.InWeightIdeal.τ).loc Cert.InWeightIdeal.main_arg0)
      ∧ m' ((c.tc : Thread Cert.InWeightMathIdeal.nD Cert.InWeightMathIdeal.τ).loc Cert.InWeightMathIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v2)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v2) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightMathIdeal.defs (F := Ideal)) (onTc (τ := Cert.InWeightMathIdeal.τ) (Cert.InWeightMathIdeal.main (F := Ideal))) ⟨m', fun _ => 0, g'⟩ (fun r => ∀ c : Dev Cert.InWeightMathIdeal.nD,
          r.2.mem ((c.tc : Thread Cert.InWeightMathIdeal.nD Cert.InWeightMathIdeal.τ).loc Cert.InWeightMathIdeal.main_v6) = v0 c
          ∧ r.2.mem ((c.tc : Thread Cert.InWeightMathIdeal.nD Cert.InWeightMathIdeal.τ).loc Cert.InWeightMathIdeal.main_arg0) = m' ((c.tc : Thread Cert.InWeightMathIdeal.nD Cert.InWeightMathIdeal.τ).loc Cert.InWeightMathIdeal.main_arg0)
          ∧ r.2.mem ((c.tc : Thread Cert.InWeightMathIdeal.nD Cert.InWeightMathIdeal.τ).loc Cert.InWeightMathIdeal.main_arg1) = m' ((c.tc : Thread Cert.InWeightMathIdeal.nD Cert.InWeightMathIdeal.τ).loc Cert.InWeightMathIdeal.main_arg1))

def preserves_InInput_InInputIdeal : Prop :=
  True

def algebraic_InInputIdeal_InInputMathIdeal [hInInputIdeal : Cert.InInputIdeal.Facts] [hInInputMathIdeal : Cert.InInputMathIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputMathIdeal.nD Cert.InInputMathIdeal.τ Cert.InInputMathIdeal.sig) → Buf (Elt Ideal) ℓ) (g' : Dev Cert.InInputMathIdeal.nD → PrngReg), Pre_InInputIdeal m →
    (∀ c : Dev Cert.InInputIdeal.nD,
      m' ((c.tc : Thread Cert.InInputMathIdeal.nD Cert.InInputMathIdeal.τ).loc Cert.InInputMathIdeal.main_arg0) = m ((c.tc : Thread Cert.InInputIdeal.nD Cert.InInputIdeal.τ).loc Cert.InInputIdeal.main_arg0)
      ∧ m' ((c.tc : Thread Cert.InInputMathIdeal.nD Cert.InInputMathIdeal.τ).loc Cert.InInputMathIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v2)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v2) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputMathIdeal.defs (F := Ideal)) (onTc (τ := Cert.InInputMathIdeal.τ) (Cert.InInputMathIdeal.main (F := Ideal))) ⟨m', fun _ => 0, g'⟩ (fun r => ∀ c : Dev Cert.InInputMathIdeal.nD,
          r.2.mem ((c.tc : Thread Cert.InInputMathIdeal.nD Cert.InInputMathIdeal.τ).loc Cert.InInputMathIdeal.main_v3) = v0 c
          ∧ r.2.mem ((c.tc : Thread Cert.InInputMathIdeal.nD Cert.InInputMathIdeal.τ).loc Cert.InInputMathIdeal.main_arg0) = m' ((c.tc : Thread Cert.InInputMathIdeal.nD Cert.InInputMathIdeal.τ).loc Cert.InInputMathIdeal.main_arg0)
          ∧ r.2.mem ((c.tc : Thread Cert.InInputMathIdeal.nD Cert.InInputMathIdeal.τ).loc Cert.InInputMathIdeal.main_arg1) = m' ((c.tc : Thread Cert.InInputMathIdeal.nD Cert.InInputMathIdeal.τ).loc Cert.InInputMathIdeal.main_arg1))

def preserves_GateInput_GateInputIdeal : Prop :=
  True

def algebraic_GateInputIdeal_GateInputMathIdeal [hGateInputIdeal : Cert.GateInputIdeal.Facts] [hGateInputMathIdeal : Cert.GateInputMathIdeal.Facts] : Prop :=
  ∀ (m : (ℓ : Loc Cert.GateInputIdeal.nD Cert.GateInputIdeal.τ Cert.GateInputIdeal.sig) → Buf (Elt Ideal) ℓ) (g : Dev Cert.GateInputIdeal.nD → PrngReg)
    (m' : (ℓ : Loc Cert.GateInputMathIdeal.nD Cert.GateInputMathIdeal.τ Cert.GateInputMathIdeal.sig) → Buf (Elt Ideal) ℓ) (g' : Dev Cert.GateInputMathIdeal.nD → PrngReg), Pre_GateInputIdeal m →
    (∀ c : Dev Cert.GateInputIdeal.nD,
      m' ((c.tc : Thread Cert.GateInputMathIdeal.nD Cert.GateInputMathIdeal.τ).loc Cert.GateInputMathIdeal.main_arg0) = m ((c.tc : Thread Cert.GateInputIdeal.nD Cert.GateInputIdeal.τ).loc Cert.GateInputIdeal.main_arg0)
      ∧ m' ((c.tc : Thread Cert.GateInputMathIdeal.nD Cert.GateInputMathIdeal.τ).loc Cert.GateInputMathIdeal.main_arg1) = m ((c.tc : Thread Cert.GateInputIdeal.nD Cert.GateInputIdeal.τ).loc Cert.GateInputIdeal.main_arg1)
      ∧ m' ((c.tc : Thread Cert.GateInputMathIdeal.nD Cert.GateInputMathIdeal.τ).loc Cert.GateInputMathIdeal.main_arg2) = m ((c.tc : Thread Cert.GateInputIdeal.nD Cert.GateInputIdeal.τ).loc Cert.GateInputIdeal.main_arg2)) →
    ∃ (v0 : (c : Dev Cert.GateInputIdeal.nD) → Buf (Elt Ideal) ((c.tc : Thread Cert.GateInputIdeal.nD Cert.GateInputIdeal.τ).loc Cert.GateInputIdeal.main_v2)),
      θ_run (Cert.GateInputIdeal.defs (F := Ideal)) (onTc (τ := Cert.GateInputIdeal.τ) (Cert.GateInputIdeal.main (F := Ideal))) ⟨m, fun _ => 0, g⟩ (fun r => ∀ c : Dev Cert.GateInputIdeal.nD,
          r.2.mem ((c.tc : Thread Cert.GateInputIdeal.nD Cert.GateInputIdeal.τ).loc Cert.GateInputIdeal.main_v2) = v0 c
          ∧ r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
          ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1)
          ∧ r.2.mem ((c.tc : Thread Cert.GateInputIdeal.nD Cert.GateInputIdeal.τ).loc Cert.GateInputIdeal.main_arg2) = m ((c.tc : Thread Cert.GateInputIdeal.nD Cert.GateInputIdeal.τ).loc Cert.GateInputIdeal.main_arg2))
      ∧ θ_run (Cert.GateInputMathIdeal.defs (F := Ideal)) (onTc (τ := Cert.GateInputMathIdeal.τ) (Cert.GateInputMathIdeal.main (F := Ideal))) ⟨m', fun _ => 0, g'⟩ (fun r => ∀ c : Dev Cert.GateInputMathIdeal.nD,
          r.2.mem ((c.tc : Thread Cert.GateInputMathIdeal.nD Cert.GateInputMathIdeal.τ).loc Cert.GateInputMathIdeal.main_v5) = v0 c
          ∧ r.2.mem ((c.tc : Thread Cert.GateInputMathIdeal.nD Cert.GateInputMathIdeal.τ).loc Cert.GateInputMathIdeal.main_arg0) = m' ((c.tc : Thread Cert.GateInputMathIdeal.nD Cert.GateInputMathIdeal.τ).loc Cert.GateInputMathIdeal.main_arg0)
          ∧ r.2.mem ((c.tc : Thread Cert.GateInputMathIdeal.nD Cert.GateInputMathIdeal.τ).loc Cert.GateInputMathIdeal.main_arg1) = m' ((c.tc : Thread Cert.GateInputMathIdeal.nD Cert.GateInputMathIdeal.τ).loc Cert.GateInputMathIdeal.main_arg1)
          ∧ r.2.mem ((c.tc : Thread Cert.GateInputMathIdeal.nD Cert.GateInputMathIdeal.τ).loc Cert.GateInputMathIdeal.main_arg2) = m' ((c.tc : Thread Cert.GateInputMathIdeal.nD Cert.GateInputMathIdeal.τ).loc Cert.GateInputMathIdeal.main_arg2))

def preserves_OutWeight_OutWeightIdeal : Prop :=
  True

def algebraic_OutWeightIdeal_OutWeightMathIdeal [hOutWeightIdeal : Cert.OutWeightIdeal.Facts] [hOutWeightMathIdeal : Cert.OutWeightMathIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightMathIdeal.nD Cert.OutWeightMathIdeal.τ Cert.OutWeightMathIdeal.sig) → Buf (Elt Ideal) ℓ) (g' : Dev Cert.OutWeightMathIdeal.nD → PrngReg), Pre_OutWeightIdeal m →
    (∀ c : Dev Cert.OutWeightIdeal.nD,
      m' ((c.tc : Thread Cert.OutWeightMathIdeal.nD Cert.OutWeightMathIdeal.τ).loc Cert.OutWeightMathIdeal.main_arg0) = m ((c.tc : Thread Cert.OutWeightIdeal.nD Cert.OutWeightIdeal.τ).loc Cert.OutWeightIdeal.main_arg0)
      ∧ m' ((c.tc : Thread Cert.OutWeightMathIdeal.nD Cert.OutWeightMathIdeal.τ).loc Cert.OutWeightMathIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v1)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v1) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightMathIdeal.defs (F := Ideal)) (onTc (τ := Cert.OutWeightMathIdeal.τ) (Cert.OutWeightMathIdeal.main (F := Ideal))) ⟨m', fun _ => 0, g'⟩ (fun r => ∀ c : Dev Cert.OutWeightMathIdeal.nD,
          r.2.mem ((c.tc : Thread Cert.OutWeightMathIdeal.nD Cert.OutWeightMathIdeal.τ).loc Cert.OutWeightMathIdeal.main_v4) = v0 c
          ∧ r.2.mem ((c.tc : Thread Cert.OutWeightMathIdeal.nD Cert.OutWeightMathIdeal.τ).loc Cert.OutWeightMathIdeal.main_arg0) = m' ((c.tc : Thread Cert.OutWeightMathIdeal.nD Cert.OutWeightMathIdeal.τ).loc Cert.OutWeightMathIdeal.main_arg0)
          ∧ r.2.mem ((c.tc : Thread Cert.OutWeightMathIdeal.nD Cert.OutWeightMathIdeal.τ).loc Cert.OutWeightMathIdeal.main_arg1) = m' ((c.tc : Thread Cert.OutWeightMathIdeal.nD Cert.OutWeightMathIdeal.τ).loc Cert.OutWeightMathIdeal.main_arg1))

def preserves_OutInput_OutInputIdeal : Prop :=
  True

def algebraic_OutInputIdeal_OutInputMathIdeal [hOutInputIdeal : Cert.OutInputIdeal.Facts] [hOutInputMathIdeal : Cert.OutInputMathIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputMathIdeal.nD Cert.OutInputMathIdeal.τ Cert.OutInputMathIdeal.sig) → Buf (Elt Ideal) ℓ) (g' : Dev Cert.OutInputMathIdeal.nD → PrngReg), Pre_OutInputIdeal m →
    (∀ c : Dev Cert.OutInputIdeal.nD,
      m' ((c.tc : Thread Cert.OutInputMathIdeal.nD Cert.OutInputMathIdeal.τ).loc Cert.OutInputMathIdeal.main_arg0) = m ((c.tc : Thread Cert.OutInputIdeal.nD Cert.OutInputIdeal.τ).loc Cert.OutInputIdeal.main_arg0)
      ∧ m' ((c.tc : Thread Cert.OutInputMathIdeal.nD Cert.OutInputMathIdeal.τ).loc Cert.OutInputMathIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v1)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v1) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputMathIdeal.defs (F := Ideal)) (onTc (τ := Cert.OutInputMathIdeal.τ) (Cert.OutInputMathIdeal.main (F := Ideal))) ⟨m', fun _ => 0, g'⟩ (fun r => ∀ c : Dev Cert.OutInputMathIdeal.nD,
          r.2.mem ((c.tc : Thread Cert.OutInputMathIdeal.nD Cert.OutInputMathIdeal.τ).loc Cert.OutInputMathIdeal.main_v3) = v0 c
          ∧ r.2.mem ((c.tc : Thread Cert.OutInputMathIdeal.nD Cert.OutInputMathIdeal.τ).loc Cert.OutInputMathIdeal.main_arg0) = m' ((c.tc : Thread Cert.OutInputMathIdeal.nD Cert.OutInputMathIdeal.τ).loc Cert.OutInputMathIdeal.main_arg0)
          ∧ r.2.mem ((c.tc : Thread Cert.OutInputMathIdeal.nD Cert.OutInputMathIdeal.τ).loc Cert.OutInputMathIdeal.main_arg1) = m' ((c.tc : Thread Cert.OutInputMathIdeal.nD Cert.OutInputMathIdeal.τ).loc Cert.OutInputMathIdeal.main_arg1))

def preserves_InForward_InForwardIdeal : Prop :=
  True

def algebraic_InForwardIdeal_InForwardMathIdeal [hInForwardIdeal : Cert.InForwardIdeal.Facts] [hInForwardMathIdeal : Cert.InForwardMathIdeal.Facts] : Prop :=
  ∀ (m : (ℓ : Loc Cert.InForwardIdeal.nD Cert.InForwardIdeal.τ Cert.InForwardIdeal.sig) → Buf (Elt Ideal) ℓ) (g : Dev Cert.InForwardIdeal.nD → PrngReg)
    (m' : (ℓ : Loc Cert.InForwardMathIdeal.nD Cert.InForwardMathIdeal.τ Cert.InForwardMathIdeal.sig) → Buf (Elt Ideal) ℓ) (g' : Dev Cert.InForwardMathIdeal.nD → PrngReg), Pre_InForwardIdeal m →
    (∀ c : Dev Cert.InForwardIdeal.nD,
      m' ((c.tc : Thread Cert.InForwardMathIdeal.nD Cert.InForwardMathIdeal.τ).loc Cert.InForwardMathIdeal.main_arg0) = m ((c.tc : Thread Cert.InForwardIdeal.nD Cert.InForwardIdeal.τ).loc Cert.InForwardIdeal.main_arg0)
      ∧ m' ((c.tc : Thread Cert.InForwardMathIdeal.nD Cert.InForwardMathIdeal.τ).loc Cert.InForwardMathIdeal.main_arg1) = m ((c.tc : Thread Cert.InForwardIdeal.nD Cert.InForwardIdeal.τ).loc Cert.InForwardIdeal.main_arg1)) →
    ∃ (v0 : (c : Dev Cert.InForwardIdeal.nD) → Buf (Elt Ideal) ((c.tc : Thread Cert.InForwardIdeal.nD Cert.InForwardIdeal.τ).loc Cert.InForwardIdeal.main_v2)),
      θ_run (Cert.InForwardIdeal.defs (F := Ideal)) (onTc (τ := Cert.InForwardIdeal.τ) (Cert.InForwardIdeal.main (F := Ideal))) ⟨m, fun _ => 0, g⟩ (fun r => ∀ c : Dev Cert.InForwardIdeal.nD,
          r.2.mem ((c.tc : Thread Cert.InForwardIdeal.nD Cert.InForwardIdeal.τ).loc Cert.InForwardIdeal.main_v2) = v0 c
          ∧ r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
          ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ θ_run (Cert.InForwardMathIdeal.defs (F := Ideal)) (onTc (τ := Cert.InForwardMathIdeal.τ) (Cert.InForwardMathIdeal.main (F := Ideal))) ⟨m', fun _ => 0, g'⟩ (fun r => ∀ c : Dev Cert.InForwardMathIdeal.nD,
          r.2.mem ((c.tc : Thread Cert.InForwardMathIdeal.nD Cert.InForwardMathIdeal.τ).loc Cert.InForwardMathIdeal.main_v2) = v0 c
          ∧ r.2.mem ((c.tc : Thread Cert.InForwardMathIdeal.nD Cert.InForwardMathIdeal.τ).loc Cert.InForwardMathIdeal.main_arg0) = m' ((c.tc : Thread Cert.InForwardMathIdeal.nD Cert.InForwardMathIdeal.τ).loc Cert.InForwardMathIdeal.main_arg0)
          ∧ r.2.mem ((c.tc : Thread Cert.InForwardMathIdeal.nD Cert.InForwardMathIdeal.τ).loc Cert.InForwardMathIdeal.main_arg1) = m' ((c.tc : Thread Cert.InForwardMathIdeal.nD Cert.InForwardMathIdeal.τ).loc Cert.InForwardMathIdeal.main_arg1))

def preserves_Attend_AttendIdeal : Prop :=
  IdealRules.named_const.Statement Cert.AttendIdeal.κ "mask" .f32 0xF149F2CA#32 ⊥
  ∧ IdealRules.named_const.Statement Cert.AttendIdeal.κ "ln2" .f32 0x3F317218#32 ((Real.log 2 : ℝ) : EReal)

def algebraic_AttendIdeal_AttendMathIdeal [hAttendIdeal : Cert.AttendIdeal.Facts] [hAttendMathIdeal : Cert.AttendMathIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendMathIdeal.nD Cert.AttendMathIdeal.τ Cert.AttendMathIdeal.sig) → Buf (Elt Ideal) ℓ) (g' : Dev Cert.AttendMathIdeal.nD → PrngReg), Pre_AttendIdeal m →
    (∀ c : Dev Cert.AttendIdeal.nD,
      m' ((c.tc : Thread Cert.AttendMathIdeal.nD Cert.AttendMathIdeal.τ).loc Cert.AttendMathIdeal.main_arg0) = m ((c.tc : Thread Cert.AttendIdeal.nD Cert.AttendIdeal.τ).loc Cert.AttendIdeal.main_arg0)
      ∧ m' ((c.tc : Thread Cert.AttendMathIdeal.nD Cert.AttendMathIdeal.τ).loc Cert.AttendMathIdeal.main_arg1) = m ((c.tc : Thread Cert.AttendIdeal.nD Cert.AttendIdeal.τ).loc Cert.AttendIdeal.main_arg1)
      ∧ m' ((c.tc : Thread Cert.AttendMathIdeal.nD Cert.AttendMathIdeal.τ).loc Cert.AttendMathIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v8_0)) (v1 : (c : Dev Cert.AttendIdeal.nD) → Buf (Elt Ideal) ((c.tc : Thread Cert.AttendIdeal.nD Cert.AttendIdeal.τ).loc Cert.AttendIdeal.main_v8_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v8_0) = v0 c
          ∧ r.2.mem ((c.tc : Thread Cert.AttendIdeal.nD Cert.AttendIdeal.τ).loc Cert.AttendIdeal.main_v8_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendMathIdeal.defs (F := Ideal)) (onTc (τ := Cert.AttendMathIdeal.τ) (Cert.AttendMathIdeal.main (F := Ideal))) ⟨m', fun _ => 0, g'⟩ (fun r => ∀ c : Dev Cert.AttendMathIdeal.nD,
          r.2.mem ((c.tc : Thread Cert.AttendMathIdeal.nD Cert.AttendMathIdeal.τ).loc Cert.AttendMathIdeal.main_v44) = v0 c
          ∧ r.2.mem ((c.tc : Thread Cert.AttendMathIdeal.nD Cert.AttendMathIdeal.τ).loc Cert.AttendMathIdeal.main_v45) = v1 c
          ∧ r.2.mem ((c.tc : Thread Cert.AttendMathIdeal.nD Cert.AttendMathIdeal.τ).loc Cert.AttendMathIdeal.main_arg0) = m' ((c.tc : Thread Cert.AttendMathIdeal.nD Cert.AttendMathIdeal.τ).loc Cert.AttendMathIdeal.main_arg0)
          ∧ r.2.mem ((c.tc : Thread Cert.AttendMathIdeal.nD Cert.AttendMathIdeal.τ).loc Cert.AttendMathIdeal.main_arg1) = m' ((c.tc : Thread Cert.AttendMathIdeal.nD Cert.AttendMathIdeal.τ).loc Cert.AttendMathIdeal.main_arg1)
          ∧ r.2.mem ((c.tc : Thread Cert.AttendMathIdeal.nD Cert.AttendMathIdeal.τ).loc Cert.AttendMathIdeal.main_arg2) = m' ((c.tc : Thread Cert.AttendMathIdeal.nD Cert.AttendMathIdeal.τ).loc Cert.AttendMathIdeal.main_arg2))

def Claim : Prop :=
  ∃ (hKernel : Cert.Kernel.Facts) (hKernelIdeal : Cert.KernelIdeal.Facts) (hReferenceIdeal : Cert.ReferenceIdeal.Facts) (hInWeight : Cert.InWeight.Facts) (hInWeightIdeal : Cert.InWeightIdeal.Facts) (hInWeightMathIdeal : Cert.InWeightMathIdeal.Facts) (hInInput : Cert.InInput.Facts) (hInInputIdeal : Cert.InInputIdeal.Facts) (hInInputMathIdeal : Cert.InInputMathIdeal.Facts) (hGateInput : Cert.GateInput.Facts) (hGateInputIdeal : Cert.GateInputIdeal.Facts) (hGateInputMathIdeal : Cert.GateInputMathIdeal.Facts) (hOutWeight : Cert.OutWeight.Facts) (hOutWeightIdeal : Cert.OutWeightIdeal.Facts) (hOutWeightMathIdeal : Cert.OutWeightMathIdeal.Facts) (hOutInput : Cert.OutInput.Facts) (hOutInputIdeal : Cert.OutInputIdeal.Facts) (hOutInputMathIdeal : Cert.OutInputMathIdeal.Facts) (hInForward : Cert.InForward.Facts) (hInForwardIdeal : Cert.InForwardIdeal.Facts) (hInForwardMathIdeal : Cert.InForwardMathIdeal.Facts) (hAttend : Cert.Attend.Facts) (hAttendIdeal : Cert.AttendIdeal.Facts) (hAttendMathIdeal : Cert.AttendMathIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InWeight (hInWeight := hInWeight)
    ∧ quiescent_InWeightIdeal (hInWeightIdeal := hInWeightIdeal)
    ∧ quiescent_InWeightMathIdeal (hInWeightMathIdeal := hInWeightMathIdeal)
    ∧ quiescent_InInput (hInInput := hInInput)
    ∧ quiescent_InInputIdeal (hInInputIdeal := hInInputIdeal)
    ∧ quiescent_InInputMathIdeal (hInInputMathIdeal := hInInputMathIdeal)
    ∧ quiescent_GateInput (hGateInput := hGateInput)
    ∧ quiescent_GateInputIdeal (hGateInputIdeal := hGateInputIdeal)
    ∧ quiescent_GateInputMathIdeal (hGateInputMathIdeal := hGateInputMathIdeal)
    ∧ quiescent_OutWeight (hOutWeight := hOutWeight)
    ∧ quiescent_OutWeightIdeal (hOutWeightIdeal := hOutWeightIdeal)
    ∧ quiescent_OutWeightMathIdeal (hOutWeightMathIdeal := hOutWeightMathIdeal)
    ∧ quiescent_OutInput (hOutInput := hOutInput)
    ∧ quiescent_OutInputIdeal (hOutInputIdeal := hOutInputIdeal)
    ∧ quiescent_OutInputMathIdeal (hOutInputMathIdeal := hOutInputMathIdeal)
    ∧ quiescent_InForward (hInForward := hInForward)
    ∧ quiescent_InForwardIdeal (hInForwardIdeal := hInForwardIdeal)
    ∧ quiescent_InForwardMathIdeal (hInForwardMathIdeal := hInForwardMathIdeal)
    ∧ quiescent_Attend (hAttend := hAttend)
    ∧ quiescent_AttendIdeal (hAttendIdeal := hAttendIdeal)
    ∧ quiescent_AttendMathIdeal (hAttendMathIdeal := hAttendMathIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InWeight_InWeightIdeal
    ∧ algebraic_InWeightIdeal_InWeightMathIdeal (hInWeightIdeal := hInWeightIdeal) (hInWeightMathIdeal := hInWeightMathIdeal)
    ∧ preserves_InInput_InInputIdeal
    ∧ algebraic_InInputIdeal_InInputMathIdeal (hInInputIdeal := hInInputIdeal) (hInInputMathIdeal := hInInputMathIdeal)
    ∧ preserves_GateInput_GateInputIdeal
    ∧ algebraic_GateInputIdeal_GateInputMathIdeal (hGateInputIdeal := hGateInputIdeal) (hGateInputMathIdeal := hGateInputMathIdeal)
    ∧ preserves_OutWeight_OutWeightIdeal
    ∧ algebraic_OutWeightIdeal_OutWeightMathIdeal (hOutWeightIdeal := hOutWeightIdeal) (hOutWeightMathIdeal := hOutWeightMathIdeal)
    ∧ preserves_OutInput_OutInputIdeal
    ∧ algebraic_OutInputIdeal_OutInputMathIdeal (hOutInputIdeal := hOutInputIdeal) (hOutInputMathIdeal := hOutInputMathIdeal)
    ∧ preserves_InForward_InForwardIdeal
    ∧ algebraic_InForwardIdeal_InForwardMathIdeal (hInForwardIdeal := hInForwardIdeal) (hInForwardMathIdeal := hInForwardMathIdeal)
    ∧ preserves_Attend_AttendIdeal
    ∧ algebraic_AttendIdeal_AttendMathIdeal (hAttendIdeal := hAttendIdeal) (hAttendMathIdeal := hAttendMathIdeal)
-- ==== Pre_finite.lean ====
abbrev S4x2176x8x192 : Shape := ⟨4, ![4, 2176, 8, 192]⟩
abbrev S4x2176x8x128 : Shape := ⟨4, ![4, 2176, 8, 128]⟩
abbrev S4x2048x8x128 : Shape := ⟨4, ![4, 2048, 8, 128]⟩
abbrev S_ : Shape := ⟨0, ![]⟩

class Facts : Prop where
  bcast_S_S4x2176x8x192 : S_.BroadcastsInDim S4x2176x8x192 (![] : Fin 0 → Fin S4x2176x8x192.rank)
  bcast_S_S4x2176x8x128 : S_.BroadcastsInDim S4x2176x8x128 (![] : Fin 0 → Fin S4x2176x8x128.rank)
  bcast_S_S4x2048x8x128 : S_.BroadcastsInDim S4x2048x8x128 (![] : Fin 0 → Fin S4x2048x8x128.rank)

variable [Facts]

def fn {F : FTy → Type} [FloatOps F] (main_arg0 : FVec F S4x2176x8x192 .f32) (main_arg1 : FVec F S4x2176x8x192 .f32) (main_arg2 : FVec F S4x2176x8x128 .f32) (main_arg3 : FVec F S4x2048x8x128 .f32) : IVec S4x2176x8x192 1 × IVec S4x2176x8x192 1 × IVec S4x2176x8x128 1 × IVec S4x2048x8x128 1 :=
  let main_v0 : FVec F S4x2176x8x192 .f32 := Host.absf main_arg0
  let main_cst : FVec F S_ .f32 := constant S_ .f32 0x7F800000#32
  let main_v1 : FVec F S4x2176x8x192 .f32 := broadcastInDim S4x2176x8x192 ![] bcast_S_S4x2176x8x192 main_cst
  let main_v2 : IVec S4x2176x8x192 1 := cmpf .olt main_v0 main_v1
  let main_v3 : FVec F S4x2176x8x192 .f32 := Host.absf main_arg1
  let main_cst_0 : FVec F S_ .f32 := constant S_ .f32 0x7F800000#32
  let main_v4 : FVec F S4x2176x8x192 .f32 := broadcastInDim S4x2176x8x192 ![] bcast_S_S4x2176x8x192 main_cst_0
  let main_v5 : IVec S4x2176x8x192 1 := cmpf .olt main_v3 main_v4
  let main_v6 : FVec F S4x2176x8x128 .f32 := Host.absf main_arg2
  let main_cst_1 : FVec F S_ .f32 := constant S_ .f32 0x7F800000#32
  let main_v7 : FVec F S4x2176x8x128 .f32 := broadcastInDim S4x2176x8x128 ![] bcast_S_S4x2176x8x128 main_cst_1
  let main_v8 : IVec S4x2176x8x128 1 := cmpf .olt main_v6 main_v7
  let main_v9 : FVec F S4x2048x8x128 .f32 := Host.absf main_arg3
  let main_cst_2 : FVec F S_ .f32 := constant S_ .f32 0x7F800000#32
  let main_v10 : FVec F S4x2048x8x128 .f32 := broadcastInDim S4x2048x8x128 ![] bcast_S_S4x2048x8x128 main_cst_2
  let main_v11 : IVec S4x2048x8x128 1 := cmpf .olt main_v9 main_v10
  (main_v2, main_v5, main_v8, main_v11)
-- ==== Kernel.lean ====
abbrev S4x2176x8x192 : Shape := ⟨4, ![4, 2176, 8, 192]⟩
abbrev S4x2176x8x128 : Shape := ⟨4, ![4, 2176, 8, 128]⟩
abbrev S4x2048x8x128 : Shape := ⟨4, ![4, 2048, 8, 128]⟩
abbrev S_ : Shape := ⟨0, ![]⟩
abbrev S4x2048x8x192 : Shape := ⟨4, ![4, 2048, 8, 192]⟩
abbrev S2176 : Shape := ⟨1, ![2176]⟩
abbrev S2048 : Shape := ⟨1, ![2048]⟩
abbrev S1x2176 : Shape := ⟨2, ![1, 2176]⟩
abbrev S2048x1 : Shape := ⟨2, ![2048, 1]⟩
abbrev S2048x2176 : Shape := ⟨2, ![2048, 2176]⟩
abbrev S4x8x2048x2176 : Shape := ⟨4, ![4, 8, 2048, 2176]⟩
abbrev S1x1x2048x2176 : Shape := ⟨4, ![1, 1, 2048, 2176]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8x1 : Shape := ⟨4, ![4, 2048, 8, 1]⟩
abbrev S4x2176x8x256 : Shape := ⟨4, ![4, 2176, 8, 256]⟩
abbrev S8704x2048 : Shape := ⟨2, ![8704, 2048]⟩
abbrev S8704x1024 : Shape := ⟨2, ![8704, 1024]⟩
abbrev S2176x256 : Shape := ⟨2, ![2176, 256]⟩
abbrev S2176x128 : Shape := ⟨2, ![2176, 128]⟩
abbrev S256x256 : Shape := ⟨2, ![256, 256]⟩
abbrev S256x128 : Shape := ⟨2, ![256, 128]⟩
abbrev S128x256 : Shape := ⟨2, ![128, 256]⟩
abbrev S1x256 : Shape := ⟨2, ![1, 256]⟩
abbrev S256 : Shape := ⟨1, ![256]⟩
abbrev S512x256 : Shape := ⟨2, ![512, 256]⟩
abbrev S512x128 : Shape := ⟨2, ![512, 128]⟩
abbrev S768x256 : Shape := ⟨2, ![768, 256]⟩
abbrev S768x128 : Shape := ⟨2, ![768, 128]⟩
abbrev S1024x256 : Shape := ⟨2, ![1024, 256]⟩
abbrev S1024x128 : Shape := ⟨2, ![1024, 128]⟩
abbrev S128x128 : Shape := ⟨2, ![128, 128]⟩
abbrev S1x128 : Shape := ⟨2, ![1, 128]⟩
abbrev S128 : Shape := ⟨1, ![128]⟩

abbrev nBuf : Space → Nat
  | .hbm => 121
  | .vmem => 20
  | .smem => 0
  | _ => 0

abbrev bufTy : (tb : Table) → Fin (tcTables nBuf tb) → BufTy
  | .hbm, ⟨0, _⟩ => ⟨S4x2176x8x192, .f32⟩
  | .hbm, ⟨1, _⟩ => ⟨S4x2176x8x192, .f32⟩
  | .hbm, ⟨2, _⟩ => ⟨S4x2176x8x128, .f32⟩
  | .hbm, ⟨3, _⟩ => ⟨S4x2048x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x2176x8x192, .f32⟩
  | .hbm, ⟨9, _⟩ => ⟨S4x2176x8x192, .f32⟩
  | .hbm, ⟨10, _⟩ => ⟨S4x2048x8x192, .f32⟩
  | .hbm, ⟨11, _⟩ => ⟨S2176, .i32⟩
  | .hbm, ⟨12, _⟩ => ⟨S_, .i32⟩
  | .hbm, ⟨13, _⟩ => ⟨S_, .i32⟩
  | .hbm, ⟨14, _⟩ => ⟨S2176, .i32⟩
  | .hbm, ⟨15, _⟩ => ⟨S2176, .i32⟩
  | .hbm, ⟨16, _⟩ => ⟨S2176, .i32⟩
  | .hbm, ⟨17, _⟩ => ⟨S_, .i32⟩
  | .hbm, ⟨18, _⟩ => ⟨S2176, .i32⟩
  | .hbm, ⟨19, _⟩ => ⟨S2176, .i1⟩
  | .hbm, ⟨20, _⟩ => ⟨S2176, .i32⟩
  | .hbm, ⟨21, _⟩ => ⟨S2176, .i32⟩
  | .hbm, ⟨22, _⟩ => ⟨S_, .i32⟩
  | .hbm, ⟨23, _⟩ => ⟨S2176, .i32⟩
  | .hbm, ⟨24, _⟩ => ⟨S2176, .i1⟩
  | .hbm, ⟨25, _⟩ => ⟨S2176, .i1⟩
  | .hbm, ⟨26, _⟩ => ⟨S_, .i32⟩
  | .hbm, ⟨27, _⟩ => ⟨S2176, .i32⟩
  | .hbm, ⟨28, _⟩ => ⟨S2176, .i32⟩
  | .hbm, ⟨29, _⟩ => ⟨S2176, .i32⟩
  | .hbm, ⟨30, _⟩ => ⟨S_, .i32⟩
  | .hbm, ⟨31, _⟩ => ⟨S2176, .i32⟩
  | .hbm, ⟨32, _⟩ => ⟨S2176, .i1⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S1x2176, .i32⟩
  | .hbm, ⟨56, _⟩ => ⟨S2048x1, .i32⟩
  | .hbm, ⟨57, _⟩ => ⟨S2048x2176, .i32⟩
  | .hbm, ⟨58, _⟩ => ⟨S2048x2176, .i32⟩
  | .hbm, ⟨59, _⟩ => ⟨S2048x2176, .i1⟩
  | .hbm, ⟨60, _⟩ => ⟨S1x2176, .i1⟩
  | .hbm, ⟨61, _⟩ => ⟨S2048x2176, .i1⟩
  | .hbm, ⟨62, _⟩ => ⟨S2048x2176, .i1⟩
  | .hbm, ⟨63, _⟩ => ⟨S4x8x2048x2176, .f32⟩
  | .hbm, ⟨64, _⟩ => ⟨S_, .f32⟩
  | .hbm, ⟨65, _⟩ => ⟨S4x8x2048x2176, .f32⟩
  | .hbm, ⟨66, _⟩ => ⟨S4x8x2048x2176, .f32⟩
  | .hbm, ⟨67, _⟩ => ⟨S1x1x2048x2176, .i1⟩
  | .hbm, ⟨68, _⟩ => ⟨S_, .f32⟩
  | .hbm, ⟨69, _⟩ => ⟨S_, .f32⟩
  | .hbm, ⟨70, _⟩ => ⟨S4x8x2048x2176, .i1⟩
  | .hbm, ⟨71, _⟩ => ⟨S4x8x2048x2176, .f32⟩
  | .hbm, ⟨72, _⟩ => ⟨S4x8x2048x2176, .f32⟩
  | .hbm, ⟨73, _⟩ => ⟨S_, .f32⟩
  | .hbm, ⟨74, _⟩ => ⟨S4x8x2048, .f32⟩
  | .hbm, ⟨75, _⟩ => ⟨S4x8x2048x1, .f32⟩
  | .hbm, ⟨76, _⟩ => ⟨S4x8x2048x2176, .f32⟩
  | .hbm, ⟨77, _⟩ => ⟨S4x8x2048x2176, .f32⟩
  | .hbm, ⟨78, _⟩ => ⟨S4x8x2048x2176, .f32⟩
  | .hbm, ⟨79, _⟩ => ⟨S_, .f32⟩
  | .hbm, ⟨80, _⟩ => ⟨S4x8x2048, .f32⟩
  | .hbm, ⟨81, _⟩ => ⟨S4x8x2048x1, .f32⟩
  | .hbm, ⟨82, _⟩ => ⟨S4x8x2048x2176, .f32⟩
  | .hbm, ⟨83, _⟩ => ⟨S4x8x2048x2176, .f32⟩
  | .hbm, ⟨84, _⟩ => ⟨S4x8x128x2048, .f32⟩
  | .hbm, ⟨85, _⟩ => ⟨S4x2048x8x128, .f32⟩
  | .hbm, ⟨86, _⟩ => ⟨S4x8x2048x1, .f32⟩
  | .hbm, ⟨87, _⟩ => ⟨S4x8x2048x1, .f32⟩
  | .hbm, ⟨88, _⟩ => ⟨S_, .f32⟩
  | .hbm, ⟨89, _⟩ => ⟨S_, .f32⟩
  | .hbm, ⟨90, _⟩ => ⟨S4x8x2048x1, .f32⟩
  | .hbm, ⟨91, _⟩ => ⟨S4x8x2048x1, .f32⟩
  | .hbm, ⟨92, _⟩ => ⟨S4x2048x8x1, .f32⟩
  | .hbm, ⟨93, _⟩ => ⟨S4x2048x8x128, .f32⟩
  | .hbm, ⟨94, _⟩ => ⟨S_, .i32⟩
  | .hbm, ⟨95, _⟩ => ⟨S_, .f32⟩
  | .hbm, ⟨96, _⟩ => ⟨S4x2176x8x256, .f32⟩
  | .hbm, ⟨97, _⟩ => ⟨S8704x2048, .f32⟩
  | .hbm, ⟨98, _⟩ => ⟨S8704x2048, .bf16⟩
  | .hbm, ⟨99, _⟩ => ⟨S_, .i32⟩
  | .hbm, ⟨100, _⟩ => ⟨S_, .f32⟩
  | .hbm, ⟨101, _⟩ => ⟨S4x2176x8x256, .f32⟩
  | .hbm, ⟨102, _⟩ => ⟨S8704x2048, .f32⟩
  | .hbm, ⟨103, _⟩ => ⟨S8704x2048, .bf16⟩
  | .hbm, ⟨104, _⟩ => ⟨S8704x1024, .f32⟩
  | .hbm, ⟨105, _⟩ => ⟨S8704x1024, .bf16⟩
  | .hbm, ⟨106, _⟩ => ⟨S_, .i32⟩
  | .hbm, ⟨107, _⟩ => ⟨S_, .f32⟩
  | .hbm, ⟨108, _⟩ => ⟨S4x2176x8x128, .f32⟩
  | .hbm, ⟨109, _⟩ => ⟨S8704x1024, .f32⟩
  | .hbm, ⟨110, _⟩ => ⟨S_, .i32⟩
  | .hbm, ⟨111, _⟩ => ⟨S_, .f32⟩
  | .hbm, ⟨112, _⟩ => ⟨S4x2176x8x128, .f32⟩
  | .hbm, ⟨113, _⟩ => ⟨S8704x1024, .f32⟩
  | .hbm, ⟨114, _⟩ => ⟨S_, .i32⟩
  | .hbm, ⟨115, _⟩ => ⟨S_, .f32⟩
  | .hbm, ⟨116, _⟩ => ⟨S4x2176x8x128, .f32⟩
  | .hbm, ⟨117, _⟩ => ⟨S8704x1024, .f32⟩
  | .hbm, ⟨118, _⟩ => ⟨S8704x2048, .bf16⟩
  | .hbm, ⟨119, _⟩ => ⟨S8704x2048, .bf16⟩
  | .hbm, ⟨120, _⟩ => ⟨S8704x1024, .bf16⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x256, .bf16⟩
  | .local _ .vmem, ⟨13, _⟩ => ⟨S2176x256, .bf16⟩
  | .local _ .vmem, ⟨14, _⟩ => ⟨S2176x256, .bf16⟩
  | .local _ .vmem, ⟨15, _⟩ => ⟨S2176x256, .bf16⟩
  | .local _ .vmem, ⟨16, _⟩ => ⟨S2176x128, .bf16⟩
  | .local _ .vmem, ⟨17, _⟩ => ⟨S2176x128, .bf16⟩
  | .local _ .vmem, ⟨18, _⟩ => ⟨S2176x256, .f32⟩
  | .local _ .vmem, ⟨19, _⟩ => ⟨S2176x128, .f32⟩
  | _, _ => ⟨S4x2176x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_4 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_5 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v25 : Ref sig .tc := ⟨.hbm, 72, rfl⟩
abbrev main_cst_6 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_7 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_8 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_9 : Ref sig .tc := ⟨.hbm, 94, rfl⟩
abbrev main_call3_v0 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_10 : Ref sig .tc := ⟨.hbm, 99, rfl⟩
abbrev main_call4_v0 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_c_11 : Ref sig .tc := ⟨.hbm, 106, rfl⟩
abbrev main_call5_v0 : Ref sig .tc := ⟨.hbm, 107, rfl⟩
abbrev main_v52 : Ref sig .tc := ⟨.hbm, 108, rfl⟩
abbrev main_v53 : Ref sig .tc := ⟨.hbm, 109, rfl⟩
abbrev main_c_12 : Ref sig .tc := ⟨.hbm, 110, rfl⟩
abbrev main_call6_v0 : Ref sig .tc := ⟨.hbm, 111, rfl⟩
abbrev main_v54 : Ref sig .tc := ⟨.hbm, 112, rfl⟩
abbrev main_v55 : Ref sig .tc := ⟨.hbm, 113, rfl⟩
abbrev main_c_13 : Ref sig .tc := ⟨.hbm, 114, rfl⟩
abbrev main_call7_v0 : Ref sig .tc := ⟨.hbm, 115, rfl⟩
abbrev main_v56 : Ref sig .tc := ⟨.hbm, 116, rfl⟩
abbrev main_v57 : Ref sig .tc := ⟨.hbm, 117, rfl⟩
abbrev main_v58_0 : Ref sig .tc := ⟨.hbm, 118, rfl⟩
abbrev main_v58_1 : Ref sig .tc := ⟨.hbm, 119, rfl⟩
abbrev main_v58_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2176x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4x2176x8x192 : Shape := ⟨4, ![4, 2176, 8, 192]⟩
abbrev S4x2176x8x128 : Shape := ⟨4, ![4, 2176, 8, 128]⟩
abbrev S4x2048x8x128 : Shape := ⟨4, ![4, 2048, 8, 128]⟩
abbrev S_ : Shape := ⟨0, ![]⟩
abbrev S4x2048x8x192 : Shape := ⟨4, ![4, 2048, 8, 192]⟩
abbrev S2176 : Shape := ⟨1, ![2176]⟩
abbrev S2048 : Shape := ⟨1, ![2048]⟩
abbrev S1x2176 : Shape := ⟨2, ![1, 2176]⟩
abbrev S2048x1 : Shape := ⟨2, ![2048, 1]⟩
abbrev S2048x2176 : Shape := ⟨2, ![2048, 2176]⟩
abbrev S4x8x2048x2176 : Shape := ⟨4, ![4, 8, 2048, 2176]⟩
abbrev S1x1x2048x2176 : Shape := ⟨4, ![1, 1, 2048, 2176]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x8x128x2176 : Shape := ⟨4, ![4, 8, 128, 2176]⟩
abbrev S4x8x2176x192 : Shape := ⟨4, ![4, 8, 2176, 192]⟩
abbrev S4x8x2048x192 : Shape := ⟨4, ![4, 8, 2048, 192]⟩
abbrev S4x2176x8x256 : Shape := ⟨4, ![4, 2176, 8, 256]⟩
abbrev S8704x2048 : Shape := ⟨2, ![8704, 2048]⟩
abbrev S8704x1024 : Shape := ⟨2, ![8704, 1024]⟩

abbrev nBuf : Space → Nat
  | .hbm => 159
  | .vmem => 0
  | .smem => 0
  | _ => 0

abbrev hbmTy0_0 (i : Nat) : BufTy := match i % 128 with
  | 0 => ⟨S4x2176x8x192, .f32⟩
  | 1 => ⟨S4x2176x8x192, .f32⟩
  | 2 => ⟨S4x2176x8x128, .f32⟩
  | 3 => ⟨S4x2048x8x128, .f32⟩
  | 4 => ⟨S_, .f32⟩
  | 5 => ⟨S_, .f32⟩
  | 6 => ⟨S_, .f32⟩
  | 7 => ⟨S_, .f32⟩
  | 8 => ⟨S4x2176x8x192, .f32⟩
  | 9 => ⟨S4x2176x8x192, .f32⟩
  | 10 => ⟨S4x2048x8x192, .f32⟩
  | 11 => ⟨S2176, .i32⟩
  | 12 => ⟨S_, .i32⟩
  | 13 => ⟨S_, .i32⟩
  | 14 => ⟨S2176, .i32⟩
  | 15 => ⟨S2176, .i32⟩
  | 16 => ⟨S2176, .i32⟩
  | 17 => ⟨S_, .i32⟩
  | 18 => ⟨S2176, .i32⟩
  | 19 => ⟨S2176, .i1⟩
  | 20 => ⟨S2176, .i32⟩
  | 21 => ⟨S2176, .i32⟩
  | 22 => ⟨S_, .i32⟩
  | 23 => ⟨S2176, .i32⟩
  | 24 => ⟨S2176, .i1⟩
  | 25 => ⟨S2176, .i1⟩
  | 26 => ⟨S_, .i32⟩
  | 27 => ⟨S2176, .i32⟩
  | 28 => ⟨S2176, .i32⟩
  | 29 => ⟨S2176, .i32⟩
  | 30 => ⟨S_, .i32⟩
  | 31 => ⟨S2176, .i32⟩
  | 32 => ⟨S2176, .i1⟩
  | 33 => ⟨S2048, .i32⟩
  | 34 => ⟨S_, .i32⟩
  | 35 => ⟨S2048, .i32⟩
  | 36 => ⟨S2048, .i32⟩
  | 37 => ⟨S_, .i32⟩
  | 38 => ⟨S_, .i32⟩
  | 39 => ⟨S2048, .i32⟩
  | 40 => ⟨S2048, .i32⟩
  | 41 => ⟨S2048, .i32⟩
  | 42 => ⟨S_, .i32⟩
  | 43 => ⟨S2048, .i32⟩
  | 44 => ⟨S2048, .i1⟩
  | 45 => ⟨S2048, .i32⟩
  | 46 => ⟨S2048, .i32⟩
  | 47 => ⟨S_, .i32⟩
  | 48 => ⟨S2048, .i32⟩
  | 49 => ⟨S2048, .i1⟩
  | 50 => ⟨S2048, .i1⟩
  | 51 => ⟨S_, .i32⟩
  | 52 => ⟨S2048, .i32⟩
  | 53 => ⟨S2048, .i32⟩
  | 54 => ⟨S2048, .i32⟩
  | 55 => ⟨S1x2176, .i32⟩
  | 56 => ⟨S2048x1, .i32⟩
  | 57 => ⟨S2048x2176, .i32⟩
  | 58 => ⟨S2048x2176, .i32⟩
  | 59 => ⟨S2048x2176, .i1⟩
  | 60 => ⟨S1x2176, .i1⟩
  | 61 => ⟨S2048x2176, .i1⟩
  | 62 => ⟨S2048x2176, .i1⟩
  | 63 => ⟨S4x8x2048x2176, .f32⟩
  | 64 => ⟨S_, .f32⟩
  | 65 => ⟨S4x8x2048x2176, .f32⟩
  | 66 => ⟨S4x8x2048x2176, .f32⟩
  | 67 => ⟨S1x1x2048x2176, .i1⟩
  | 68 => ⟨S_, .f32⟩
  | 69 => ⟨S_, .f32⟩
  | 70 => ⟨S4x8x2048x2176, .i1⟩
  | 71 => ⟨S4x8x2048x2176, .f32⟩
  | 72 => ⟨S4x8x2048x2176, .f32⟩
  | 73 => ⟨S_, .f32⟩
  | 74 => ⟨S4x8x2048x2176, .f32⟩
  | 75 => ⟨S_, .f32⟩
  | 76 => ⟨S4x8x2048, .f32⟩
  | 77 => ⟨S4x8x2048x1, .f32⟩
  | 78 => ⟨S4x8x2048x2176, .f32⟩
  | 79 => ⟨S4x8x2048x2176, .i1⟩
  | 80 => ⟨S4x8x2048x2176, .f32⟩
  | 81 => ⟨S_, .f32⟩
  | 82 => ⟨S4x8x2048, .f32⟩
  | 83 => ⟨S_, .f32⟩
  | 84 => ⟨S4x8x2048, .f32⟩
  | 85 => ⟨S4x8x2048, .f32⟩
  | 86 => ⟨S_, .f32⟩
  | 87 => ⟨S4x8x2048, .f32⟩
  | 88 => ⟨S4x8x2048, .i1⟩
  | 89 => ⟨S_, .f32⟩
  | 90 => ⟨S4x8x2048, .f32⟩
  | 91 => ⟨S4x8x2048, .i1⟩
  | 92 => ⟨S_, .f32⟩
  | 93 => ⟨S4x8x2048, .f32⟩
  | 94 => ⟨S_, .f32⟩
  | 95 => ⟨S4x8x2048, .f32⟩
  | 96 => ⟨S_, .f32⟩
  | 97 => ⟨S4x8x2048, .f32⟩
  | 98 => ⟨S4x8x2048, .f32⟩
  | 99 => ⟨S4x8x2048, .f32⟩
  | 100 => ⟨S4x8x2048x1, .f32⟩
  | 101 => ⟨S4x8x2048x2176, .f32⟩
  | 102 => ⟨S4x8x2048x2176, .f32⟩
  | 103 => ⟨S4x8x2048x2176, .f32⟩
  | 104 => ⟨S_, .f32⟩
  | 105 => ⟨S4x8x2048, .f32⟩
  | 106 => ⟨S4x8x2048x1, .f32⟩
  | 107 => ⟨S4x8x2048x2176, .f32⟩
  | 108 => ⟨S4x8x2048x2176, .f32⟩
  | 109 => ⟨S4x8x2048x1, .f32⟩
  | 110 => ⟨S_, .f32⟩
  | 111 => ⟨S4x8x2048x1, .f32⟩
  | 112 => ⟨S4x8x2048x1, .f32⟩
  | 113 => ⟨S4x8x128x2048, .f32⟩
  | 114 => ⟨S4x2048x8x128, .f32⟩
  | 115 => ⟨S4x8x128x2048, .f32⟩
  | 116 => ⟨S4x8x2048x2176, .f32⟩
  | 117 => ⟨S4x8x128x2176, .f32⟩
  | 118 => ⟨S4x2176x8x128, .f32⟩
  | 119 => ⟨S4x8x2048x2176, .f32⟩
  | 120 => ⟨S4x8x2048x2176, .f32⟩
  | 121 => ⟨S4x8x2048x2176, .f32⟩
  | 122 => ⟨S_, .f32⟩
  | 123 => ⟨S4x8x2048, .f32⟩
  | 124 => ⟨S4x8x2048x1, .f32⟩
  | 125 => ⟨S4x8x2048x1, .f32⟩
  | 126 => ⟨S4x8x2048x2176, .f32⟩
  | 127 => ⟨S4x8x2048x2176, .f32⟩
  | _ => ⟨S4x2176x8x192, .f32⟩

abbrev hbmTy0_1 (i : Nat) : BufTy := match i % 128 with
  | 0 => ⟨S_, .f32⟩
  | 1 => ⟨S4x8x2048, .f32⟩
  | 2 => ⟨S4x8x2048x2176, .f32⟩
  | 3 => ⟨S4x8x2048x2176, .f32⟩
  | 4 => ⟨S4x8x2048x2176, .f32⟩
  | 5 => ⟨S_, .f32⟩
  | 6 => ⟨S4x8x2048x2176, .f32⟩
  | 7 => ⟨S4x8x2048x2176, .f32⟩
  | 8 => ⟨S_, .f32⟩
  | 9 => ⟨S4x8x2048x2176, .f32⟩
  | 10 => ⟨S4x8x2048x2176, .f32⟩
  | 11 => ⟨S4x8x2176x192, .f32⟩
  | 12 => ⟨S4x2176x8x192, .f32⟩
  | 13 => ⟨S4x8x2048x192, .f32⟩
  | 14 => ⟨S4x2048x8x192, .f32⟩
  | 15 => ⟨S_, .f32⟩
  | 16 => ⟨S4x2176x8x192, .f32⟩
  | 17 => ⟨S4x2176x8x192, .f32⟩
  | 18 => ⟨S4x2176x8x192, .f32⟩
  | 19 => ⟨S_, .i32⟩
  | 20 => ⟨S_, .f32⟩
  | 21 => ⟨S4x2176x8x256, .f32⟩
  | 22 => ⟨S8704x2048, .f32⟩
  | 23 => ⟨S8704x2048, .bf16⟩
  | 24 => ⟨S_, .i32⟩
  | 25 => ⟨S_, .f32⟩
  | 26 => ⟨S4x2176x8x256, .f32⟩
  | 27 => ⟨S8704x2048, .f32⟩
  | 28 => ⟨S8704x2048, .bf16⟩
  | 29 => ⟨S8704x1024, .f32⟩
  | 30 => ⟨S8704x1024, .bf16⟩
  | _ => ⟨S4x2176x8x192, .f32⟩

abbrev hbmTy (i : Nat) : BufTy := match i / 128 with
  | 0 => hbmTy0_0 i
  | 1 => hbmTy0_1 i
  | _ => ⟨S4x2176x8x192, .f32⟩

abbrev bufTy : (tb : Table) → Fin (tcTables nBuf tb) → BufTy
  | .hbm, ⟨i, _⟩ => hbmTy i
  | _, _ => ⟨S4x2176x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_4 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_5 : Ref sig .tc := ⟨.hbm, 68, rfl⟩
abbrev main_call2_v0 : Ref sig .tc := ⟨.hbm, 69, rfl⟩
abbrev main_v25_1 : Ref sig .tc := ⟨.hbm, 70, rfl⟩
abbrev main_call2_v2 : Ref sig .tc := ⟨.hbm, 71, rfl⟩
abbrev main_v25_0 : Ref sig .tc := ⟨.hbm, 72, rfl⟩
abbrev main_call2_cst : Ref sig .tc := ⟨.hbm, 73, rfl⟩
abbrev main_v25_2 : Ref sig .tc := ⟨.hbm, 74, rfl⟩
abbrev main_cst_6 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_7 : Ref sig .tc := ⟨.hbm, 81, rfl⟩
abbrev main_v31 : Ref sig .tc := ⟨.hbm, 82, rfl⟩
abbrev main_cst_8 : Ref sig .tc := ⟨.hbm, 83, rfl⟩
abbrev main_v32 : Ref sig .tc := ⟨.hbm, 84, rfl⟩
abbrev main_v33 : Ref sig .tc := ⟨.hbm, 85, rfl⟩
abbrev main_cst_9 : Ref sig .tc := ⟨.hbm, 86, rfl⟩
abbrev main_v34 : Ref sig .tc := ⟨.hbm, 87, rfl⟩
abbrev main_v35 : Ref sig .tc := ⟨.hbm, 88, rfl⟩
abbrev main_cst_10 : Ref sig .tc := ⟨.hbm, 89, rfl⟩
abbrev main_v36 : Ref sig .tc := ⟨.hbm, 90, rfl⟩
abbrev main_v37 : Ref sig .tc := ⟨.hbm, 91, rfl⟩
abbrev main_cst_11 : Ref sig .tc := ⟨.hbm, 92, rfl⟩
abbrev main_v38 : Ref sig .tc := ⟨.hbm, 93, rfl⟩
abbrev main_cst_12 : Ref sig .tc := ⟨.hbm, 94, rfl⟩
abbrev main_v39 : Ref sig .tc := ⟨.hbm, 95, rfl⟩
abbrev main_cst_13 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_14 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_15 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_16 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_17 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_call3_cst : Ref sig .tc := ⟨.hbm, 133, rfl⟩
abbrev main_call3_v0 : Ref sig .tc := ⟨.hbm, 134, rfl⟩
abbrev main_v72 : Ref sig .tc := ⟨.hbm, 135, rfl⟩
abbrev main_cst_18 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_19 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_20 : Ref sig .tc := ⟨.hbm, 147, rfl⟩
abbrev main_call4_v0 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_c_21 : Ref sig .tc := ⟨.hbm, 152, rfl⟩
abbrev main_call5_v0 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩

abbrev nD : Nat := 1
abbrev τ : Topo := Topo.v7x

variable {F : FTy → Type} [FloatOps F]
-- ==== InWeight.lean ====
abbrev S8704x3072 : Shape := ⟨2, ![8704, 3072]⟩
abbrev S8704x1024 : Shape := ⟨2, ![8704, 1024]⟩
abbrev S3072x1024 : Shape := ⟨2, ![3072, 1024]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8704x3072, .f32⟩
  | .hbm, ⟨1, _⟩ => ⟨S8704x1024, .f32⟩
  | .hbm, ⟨2, _⟩ => ⟨S8704x3072, .bf16⟩
  | .hbm, ⟨3, _⟩ => ⟨S8704x1024, .bf16⟩
  | .hbm, ⟨4, _⟩ => ⟨S3072x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 17], ![false, false, false]⟩

def k0_cond2 (i : grid0.Coords) : BitVec 1 :=
  let arg2 : BitVec 32 := BitVec.ofNat 32 (i 2).val
  let c16_i32 : BitVec 32 := 16#32
  let v13 : BitVec 1 := Scalar.cmpi .eq arg2 c16_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightMathIdeal.lean ====
abbrev S8704x3072 : Shape := ⟨2, ![8704, 3072]⟩
abbrev S8704x1024 : Shape := ⟨2, ![8704, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S8704x1024, .f32⟩
  | .hbm, ⟨2, _⟩ => ⟨S_, .f32⟩
  | .hbm, ⟨3, _⟩ => ⟨S3072x1024, .f32⟩
  | .hbm, ⟨4, _⟩ => ⟨S1024x3072, .f32⟩
  | .hbm, ⟨5, _⟩ => ⟨S8704x3072, .f32⟩
  | .hbm, ⟨6, _⟩ => ⟨S3072x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InInput.lean ====
abbrev S8704x3072 : Shape := ⟨2, ![8704, 3072]⟩
abbrev S3072x1024 : Shape := ⟨2, ![3072, 1024]⟩
abbrev S8704x1024 : Shape := ⟨2, ![8704, 1024]⟩
abbrev S1088x3072 : Shape := ⟨2, ![1088, 3072]⟩
abbrev S1088x1024 : Shape := ⟨2, ![1088, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8704x3072, .f32⟩
  | .hbm, ⟨1, _⟩ => ⟨S3072x1024, .f32⟩
  | .hbm, ⟨2, _⟩ => ⟨S8704x3072, .bf16⟩
  | .hbm, ⟨3, _⟩ => ⟨S3072x1024, .bf16⟩
  | .hbm, ⟨4, _⟩ => ⟨S8704x1024, .f32⟩
  | .local _ .vmem, ⟨0, _⟩ => ⟨S1088x3072, .bf16⟩
  | .local _ .vmem, ⟨1, _⟩ => ⟨S1088x3072, .bf16⟩
  | .local _ .vmem, ⟨2, _⟩ => ⟨S3072x1024, .bf16⟩
  | .local _ .vmem, ⟨3, _⟩ => ⟨S1088x1024, .f32⟩
  | .local _ .vmem, ⟨4, _⟩ => ⟨S1088x1024, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InInputMathIdeal.lean ====
abbrev S8704x3072 : Shape := ⟨2, ![8704, 3072]⟩
abbrev S3072x1024 : Shape := ⟨2, ![3072, 1024]⟩
abbrev S_ : Shape := ⟨0, ![]⟩
abbrev S8704x1024 : Shape := ⟨2, ![8704, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S3072x1024, .f32⟩
  | .hbm, ⟨2, _⟩ => ⟨S_, .f32⟩
  | .hbm, ⟨3, _⟩ => ⟨S8704x1024, .f32⟩
  | .hbm, ⟨4, _⟩ => ⟨S1024x3072, .f32⟩
  | .hbm, ⟨5, _⟩ => ⟨S8704x3072, .f32⟩
  | .hbm, ⟨6, _⟩ => ⟨S8704x1024, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateInput.lean ====
abbrev S8704x1024 : Shape := ⟨2, ![8704, 1024]⟩
abbrev S1024x1024 : Shape := ⟨2, ![1024, 1024]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S8704x1024, .bf16⟩
  | .hbm, ⟨4, _⟩ => ⟨S1024x1024, .bf16⟩
  | .hbm, ⟨5, _⟩ => ⟨S8704x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .bf16⟩
  | .local _ .vmem, ⟨6, _⟩ => ⟨S1088x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateInputMathIdeal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | .hbm, ⟨3, _⟩ => ⟨S_, .f32⟩
  | .hbm, ⟨4, _⟩ => ⟨S8704x1024, .f32⟩
  | .hbm, ⟨5, _⟩ => ⟨S1024x1024, .f32⟩
  | .hbm, ⟨6, _⟩ => ⟨S8704x1024, .f32⟩
  | .hbm, ⟨7, _⟩ => ⟨S8704x1024, .f32⟩
  | .hbm, ⟨8, _⟩ => ⟨S8704x1024, .f32⟩
  | .hbm, ⟨9, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutWeight.lean ====
abbrev S8704x1024 : Shape := ⟨2, ![8704, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x1024, .bf16⟩
  | .hbm, ⟨3, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 17], ![false, false, false]⟩

def k0_cond2 (i : grid0.Coords) : BitVec 1 :=
  let arg2 : BitVec 32 := BitVec.ofNat 32 (i 2).val
  let c16_i32 : BitVec 32 := 16#32
  let v13 : BitVec 1 := Scalar.cmpi .eq arg2 c16_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightMathIdeal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutInput.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S1024x1024, .bf16⟩
  | .hbm, ⟨3, _⟩ => ⟨S8704x1024, .bf16⟩
  | .local _ .vmem, ⟨0, _⟩ => ⟨S2176x1024, .f32⟩
  | .local _ .vmem, ⟨1, _⟩ => ⟨S2176x1024, .f32⟩
  | .local _ .vmem, ⟨2, _⟩ => ⟨S1024x1024, .bf16⟩
  | .local _ .vmem, ⟨3, _⟩ => ⟨S2176x1024, .bf16⟩
  | .local _ .vmem, ⟨4, _⟩ => ⟨S2176x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutInputMathIdeal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S_, .f32⟩
  | .hbm, ⟨3, _⟩ => ⟨S8704x1024, .f32⟩
  | .hbm, ⟨4, _⟩ => ⟨S8704x1024, .f32⟩
  | .hbm, ⟨5, _⟩ => ⟨S8704x1024, .f32⟩
  | .hbm, ⟨6, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InForward.lean ====
abbrev S8704x1024 : Shape := ⟨2, ![8704, 1024]⟩
abbrev S3072x1024 : Shape := ⟨2, ![3072, 1024]⟩
abbrev S8704x3072 : Shape := ⟨2, ![8704, 3072]⟩
abbrev S512x1024 : Shape := ⟨2, ![512, 1024]⟩
abbrev S512x3072 : Shape := ⟨2, ![512, 3072]⟩

abbrev nBuf : Space → Nat
  | .hbm => 5
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S3072x1024, .f32⟩
  | .hbm, ⟨2, _⟩ => ⟨S8704x1024, .bf16⟩
  | .hbm, ⟨3, _⟩ => ⟨S3072x1024, .bf16⟩
  | .hbm, ⟨4, _⟩ => ⟨S8704x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InForwardMathIdeal.lean ====
abbrev S8704x1024 : Shape := ⟨2, ![8704, 1024]⟩
abbrev S3072x1024 : Shape := ⟨2, ![3072, 1024]⟩
abbrev S1024x3072 : Shape := ⟨2, ![1024, 3072]⟩
abbrev S8704x3072 : Shape := ⟨2, ![8704, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S3072x1024, .f32⟩
  | .hbm, ⟨2, _⟩ => ⟨S1024x3072, .f32⟩
  | .hbm, ⟨3, _⟩ => ⟨S8704x3072, .f32⟩
  | .hbm, ⟨4, _⟩ => ⟨S8704x3072, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attend.lean ====
abbrev S4x2176x8x192 : Shape := ⟨4, ![4, 2176, 8, 192]⟩
abbrev S4x2176x8x128 : Shape := ⟨4, ![4, 2176, 8, 128]⟩
abbrev S8704x1024 : Shape := ⟨2, ![8704, 1024]⟩
abbrev S_ : Shape := ⟨0, ![]⟩
abbrev S4x2176x8x256 : Shape := ⟨4, ![4, 2176, 8, 256]⟩
abbrev S8704x2048 : Shape := ⟨2, ![8704, 2048]⟩
abbrev S2176x256 : Shape := ⟨2, ![2176, 256]⟩
abbrev S2176x128 : Shape := ⟨2, ![2176, 128]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S512x256 : Shape := ⟨2, ![512, 256]⟩
abbrev S256x512 : Shape := ⟨2, ![256, 512]⟩
abbrev S512x128 : Shape := ⟨2, ![512, 128]⟩
abbrev S128x256 : Shape := ⟨2, ![128, 256]⟩
abbrev S128x512 : Shape := ⟨2, ![128, 512]⟩
abbrev S128 : Shape := ⟨1, ![128]⟩
abbrev S128x1 : Shape := ⟨2, ![128, 1]⟩
abbrev S128x128 : Shape := ⟨2, ![128, 128]⟩

abbrev nBuf : Space → Nat
  | .hbm => 17
  | .vmem => 10
  | .smem => 0
  | _ => 0

abbrev bufTy : (tb : Table) → Fin (tcTables nBuf tb) → BufTy
  | .hbm, ⟨0, _⟩ => ⟨S4x2176x8x192, .f32⟩
  | .hbm, ⟨1, _⟩ => ⟨S4x2176x8x192, .f32⟩
  | .hbm, ⟨2, _⟩ => ⟨S4x2176x8x128, .f32⟩
  | .hbm, ⟨3, _⟩ => ⟨S8704x1024, .f32⟩
  | .hbm, ⟨4, _⟩ => ⟨S8704x1024, .bf16⟩
  | .hbm, ⟨5, _⟩ => ⟨S_, .i32⟩
  | .hbm, ⟨6, _⟩ => ⟨S_, .f32⟩
  | .hbm, ⟨7, _⟩ => ⟨S4x2176x8x256, .f32⟩
  | .hbm, ⟨8, _⟩ => ⟨S8704x2048, .f32⟩
  | .hbm, ⟨9, _⟩ => ⟨S8704x2048, .bf16⟩
  | .hbm, ⟨10, _⟩ => ⟨S_, .i32⟩
  | .hbm, ⟨11, _⟩ => ⟨S_, .f32⟩
  | .hbm, ⟨12, _⟩ => ⟨S4x2176x8x256, .f32⟩
  | .hbm, ⟨13, _⟩ => ⟨S8704x2048, .f32⟩
  | .hbm, ⟨14, _⟩ => ⟨S8704x2048, .bf16⟩
  | .hbm, ⟨15, _⟩ => ⟨S8704x1024, .f32⟩
  | .hbm, ⟨16, _⟩ => ⟨S8704x1024, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | _, _ => ⟨S4x2176x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttendIdeal.lean ====
variable {F : FTy → Type} [FloatOps F] [Named F]
def κ : String → Option EReal := fun
  | "ln2" => some ((Real.log 2 : ℝ) : EReal)
  | "mask" => some ⊥
  | _ => none
-- ==== AttendMathIdeal.lean ====
abbrev S4x2176x8x192 : Shape := ⟨4, ![4, 2176, 8, 192]⟩
abbrev S4x2176x8x128 : Shape := ⟨4, ![4, 2176, 8, 128]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S4x8x2176x2176 : Shape := ⟨4, ![4, 8, 2176, 2176]⟩
abbrev S1x1x2176x2176 : Shape := ⟨4, ![1, 1, 2176, 2176]⟩
abbrev S4x8x2176 : Shape := ⟨3, ![4, 8, 2176]⟩
abbrev S4x8x2176x1 : Shape := ⟨4, ![4, 8, 2176, 1]⟩
abbrev S4x8x128x2176 : Shape := ⟨4, ![4, 8, 128, 2176]⟩
abbrev S4x2176x8x1 : Shape := ⟨4, ![4, 2176, 8, 1]⟩
abbrev S8704x1024 : Shape := ⟨2, ![8704, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4x2176x8x192, .f32⟩
  | .hbm, ⟨1, _⟩ => ⟨S4x2176x8x192, .f32⟩
  | .hbm, ⟨2, _⟩ => ⟨S4x2176x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x2176x8x192, .f32⟩
  | .hbm, ⟨8, _⟩ => ⟨S4x2176x8x192, .f32⟩
  | .hbm, ⟨9, _⟩ => ⟨S2176, .i32⟩
  | .hbm, ⟨10, _⟩ => ⟨S_, .i32⟩
  | .hbm, ⟨11, _⟩ => ⟨S_, .i32⟩
  | .hbm, ⟨12, _⟩ => ⟨S2176, .i32⟩
  | .hbm, ⟨13, _⟩ => ⟨S2176, .i32⟩
  | .hbm, ⟨14, _⟩ => ⟨S2176, .i32⟩
  | .hbm, ⟨15, _⟩ => ⟨S_, .i32⟩
  | .hbm, ⟨16, _⟩ => ⟨S2176, .i32⟩
  | .hbm, ⟨17, _⟩ => ⟨S2176, .i1⟩
  | .hbm, ⟨18, _⟩ => ⟨S2176, .i32⟩
  | .hbm, ⟨19, _⟩ => ⟨S2176, .i32⟩
  | .hbm, ⟨20, _⟩ => ⟨S_, .i32⟩
  | .hbm, ⟨21, _⟩ => ⟨S2176, .i32⟩
  | .hbm, ⟨22, _⟩ => ⟨S2176, .i1⟩
  | .hbm, ⟨23, _⟩ => ⟨S2176, .i1⟩
  | .hbm, ⟨24, _⟩ => ⟨S_, .i32⟩
  | .hbm, ⟨25, _⟩ => ⟨S2176, .i32⟩
  | .hbm, ⟨26, _⟩ => ⟨S2176, .i32⟩
  | .hbm, ⟨27, _⟩ => ⟨S2176, .i32⟩
  | .hbm, ⟨28, _⟩ => ⟨S_, .i32⟩
  | .hbm, ⟨29, _⟩ => ⟨S2176, .i32⟩
  | .hbm, ⟨30, _⟩ => ⟨S2176, .i1⟩
  | .hbm, ⟨31, _⟩ => ⟨S2176, .i32⟩
  | .hbm, ⟨32, _⟩ => ⟨S_, .i32⟩
  | .hbm, ⟨33, _⟩ => ⟨S2176, .i32⟩
  | .hbm, ⟨34, _⟩ => ⟨S2176, .i32⟩
  | .hbm, ⟨35, _⟩ => ⟨S_, .i32⟩
  | .hbm, ⟨36, _⟩ => ⟨S_, .i32⟩
  | .hbm, ⟨37, _⟩ => ⟨S2176, .i32⟩
  | .hbm, ⟨38, _⟩ => ⟨S2176, .i32⟩
  | .hbm, ⟨39, _⟩ => ⟨S2176, .i32⟩
  | .hbm, ⟨40, _⟩ => ⟨S_, .i32⟩
  | .hbm, ⟨41, _⟩ => ⟨S2176, .i32⟩
  | .hbm, ⟨42, _⟩ => ⟨S2176, .i1⟩
  | .hbm, ⟨43, _⟩ => ⟨S2176, .i32⟩
  | .hbm, ⟨44, _⟩ => ⟨S2176, .i32⟩
  | .hbm, ⟨45, _⟩ => ⟨S_, .i32⟩
  | .hbm, ⟨46, _⟩ => ⟨S2176, .i32⟩
  | .hbm, ⟨47, _⟩ => ⟨S2176, .i1⟩
  | .hbm, ⟨48, _⟩ => ⟨S2176, .i1⟩
  | .hbm, ⟨49, _⟩ => ⟨S_, .i32⟩
  | .hbm, ⟨50, _⟩ => ⟨S2176, .i32⟩
  | .hbm, ⟨51, _⟩ => ⟨S2176, .i32⟩
  | .hbm, ⟨52, _⟩ => ⟨S2176, .i32⟩
  | .hbm, ⟨53, _⟩ => ⟨S1x2176, .i32⟩
  | .hbm, ⟨54, _⟩ => ⟨S2176x1, .i32⟩
  | .hbm, ⟨55, _⟩ => ⟨S2176x2176, .i32⟩
  | .hbm, ⟨56, _⟩ => ⟨S2176x2176, .i32⟩
  | .hbm, ⟨57, _⟩ => ⟨S2176x2176, .i1⟩
  | .hbm, ⟨58, _⟩ => ⟨S1x2176, .i1⟩
  | .hbm, ⟨59, _⟩ => ⟨S2176x2176, .i1⟩
  | .hbm, ⟨60, _⟩ => ⟨S2176x2176, .i1⟩
  | .hbm, ⟨61, _⟩ => ⟨S4x8x2176x2176, .f32⟩
  | .hbm, ⟨62, _⟩ => ⟨S_, .f32⟩
  | .hbm, ⟨63, _⟩ => ⟨S4x8x2176x2176, .f32⟩
  | .hbm, ⟨64, _⟩ => ⟨S4x8x2176x2176, .f32⟩
  | .hbm, ⟨65, _⟩ => ⟨S1x1x2176x2176, .i1⟩
  | .hbm, ⟨66, _⟩ => ⟨S_, .f32⟩
  | .hbm, ⟨67, _⟩ => ⟨S_, .f32⟩
  | .hbm, ⟨68, _⟩ => ⟨S4x8x2176x2176, .i1⟩
  | .hbm, ⟨69, _⟩ => ⟨S4x8x2176x2176, .f32⟩
  | .hbm, ⟨70, _⟩ => ⟨S4x8x2176x2176, .f32⟩
  | .hbm, ⟨71, _⟩ => ⟨S_, .f32⟩
  | .hbm, ⟨72, _⟩ => ⟨S4x8x2176, .f32⟩
  | .hbm, ⟨73, _⟩ => ⟨S4x8x2176x1, .f32⟩
  | .hbm, ⟨74, _⟩ => ⟨S4x8x2176x2176, .f32⟩
  | .hbm, ⟨75, _⟩ => ⟨S4x8x2176x2176, .f32⟩
  | .hbm, ⟨76, _⟩ => ⟨S4x8x2176x2176, .f32⟩
  | .hbm, ⟨77, _⟩ => ⟨S_, .f32⟩
  | .hbm, ⟨78, _⟩ => ⟨S4x8x2176, .f32⟩
  | .hbm, ⟨79, _⟩ => ⟨S4x8x2176x1, .f32⟩
  | .hbm, ⟨80, _⟩ => ⟨S4x8x128x2176, .f32⟩
  | .hbm, ⟨81, _⟩ => ⟨S4x2176x8x128, .f32⟩
  | .hbm, ⟨82, _⟩ => ⟨S4x2176x8x1, .f32⟩
  | .hbm, ⟨83, _⟩ => ⟨S4x2176x8x128, .f32⟩
  | .hbm, ⟨84, _⟩ => ⟨S4x2176x8x128, .f32⟩
  | .hbm, ⟨85, _⟩ => ⟨S4x8x2176x1, .f32⟩
  | .hbm, ⟨86, _⟩ => ⟨S4x8x2176x1, .f32⟩
  | .hbm, ⟨87, _⟩ => ⟨S_, .f32⟩
  | .hbm, ⟨88, _⟩ => ⟨S_, .f32⟩
  | .hbm, ⟨89, _⟩ => ⟨S4x8x2176x1, .f32⟩
  | .hbm, ⟨90, _⟩ => ⟨S4x8x2176x1, .f32⟩
  | .hbm, ⟨91, _⟩ => ⟨S4x2176x8x1, .f32⟩
  | .hbm, ⟨92, _⟩ => ⟨S4x2176x8x128, .f32⟩
  | .hbm, ⟨93, _⟩ => ⟨S8704x1024, .f32⟩
  | .hbm, ⟨94, _⟩ => ⟨S8704x1024, .f32⟩
  | _, _ => ⟨S4x2176x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_4 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v24 : Ref sig .tc := ⟨.hbm, 70, rfl⟩
abbrev main_cst_6 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_7 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_8 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩

abbrev nD : Nat := 1
abbrev τ : Topo := Topo.v7x

variable {F : FTy → Type} [FloatOps F]
-- ==== Proof.Attn.lean ====
/- Chunk-causal attention of one head over the reals: the weights of the softmax, the gradients of the queries, the keys and
   the values, and the two ways of computing a weight that the programs use. -/
module

public import Idealize.ShloMosaic.PureOps.Ideal

@[expose] public section

noncomputable section

namespace Attn

open Idealize.ShloMosaic

/-- Query `q` (row `q + 128` of the sequence) sees key `k`: not a padding row, and of the query's chunk of 64 or an earlier one. -/
def Sees (q : Fin 2048) (k : Fin 2176) : Prop := 112 ≤ k.val ∧ k.val / 64 ≤ (q.val + 128) / 64

instance (q : Fin 2048) (k : Fin 2176) : Decidable (Sees q k) := inferInstanceAs (Decidable (_ ∧ _))

/-- Every query sees key 112. -/
theorem sees_lead (q : Fin 2048) : Sees q ⟨112, by decide⟩ := ⟨le_refl _, by show 112 / 64 ≤ _; omega⟩

variable (Q : Fin 2048 → Fin 192 → ℝ) (K : Fin 2176 → Fin 192 → ℝ) (V : Fin 2176 → Fin 128 → ℝ) (G : Fin 2048 → Fin 128 → ℝ)

/-- The score of a query and a key, in units of `log 2`. -/
def score (q : Fin 2048) (k : Fin 2176) : ℝ := ∑ d, Q q d * K k d

/-- The exponential of a score lowered by `M`, zero where the key is hidden. -/
def expo (M : ℝ) (q : Fin 2048) (k : Fin 2176) : ℝ := if Sees q k then Real.exp (score Q K q k * Real.log 2 - M) else 0

/-- The sum of a query's exponentials. -/
def total (M : ℝ) (q : Fin 2048) : ℝ := ∑ k, expo Q K M q k

/-- The weight the softmax gives key `k`. -/
def weight (q : Fin 2048) (k : Fin 2176) : ℝ := expo Q K 0 q k / total Q K 0 q

/-- The attention's output row of query `q`. -/
def out (q : Fin 2048) (d : Fin 128) : ℝ := ∑ k, weight Q K q k * V k d

/-- The gradient of the weight of key `k`. -/
def gradW (q : Fin 2048) (k : Fin 2176) : ℝ := ∑ d, G q d * V k d

/-- The gradient of a score, in units of `log 2`. -/
def gradS (q : Fin 2048) (k : Fin 2176) : ℝ :=
  weight Q K q k * (gradW V G q k - ∑ j, weight Q K q j * gradW V G q j) * Real.log 2

/-- The gradient of the queries. -/
def gradQ (q : Fin 2048) (d : Fin 192) : ℝ := ∑ k, gradS Q K V G q k * K k d
/-- The gradient of the keys. -/
def gradK (k : Fin 2176) (d : Fin 192) : ℝ := ∑ q, gradS Q K V G q k * Q q d
/-- The gradient of the values. -/
def gradV (k : Fin 2176) (d : Fin 128) : ℝ := ∑ q, weight Q K q k * G q d

theorem expo_nonneg (M : ℝ) (q : Fin 2048) (k : Fin 2176) : 0 ≤ expo Q K M q k := by
  unfold expo; split <;> positivity

theorem total_pos (M : ℝ) (q : Fin 2048) : 0 < total Q K M q :=
  Finset.sum_pos' (fun k _ => expo_nonneg Q K M q k)
    ⟨⟨112, by decide⟩, Finset.mem_univ _, by rw [expo, if_pos (sees_lead q)]; exact Real.exp_pos _⟩

theorem expo_shift (M : ℝ) (q : Fin 2048) (k : Fin 2176) : expo Q K M q k = expo Q K 0 q k * Real.exp (-M) := by
  unfold expo; split
  · rw [← Real.exp_add]; ring_nf
  · rw [zero_mul]

theorem total_shift (M : ℝ) (q : Fin 2048) : total Q K M q = total Q K 0 q * Real.exp (-M) := by
  simp only [total, Finset.sum_mul, expo_shift Q K M]

/-- The weight does not depend on what the scores are lowered by. -/
theorem weight_eq (M : ℝ) (q : Fin 2048) (k : Fin 2176) : expo Q K M q k / total Q K M q = weight Q K q k := by
  rw [expo_shift, total_shift, weight, mul_div_mul_right _ _ (Real.exp_ne_zero _)]

/-- The weight from the saved logarithm of the sum, as a power of two. -/
theorem weight_of_lse (M : ℝ) (q : Fin 2048) (k : Fin 2176) (h : Sees q k) :
    Real.rpow 2 (score Q K q k - (M + Real.log (total Q K M q)) / Real.log 2) = weight Q K q k := by
  have h2 : Real.log 2 ≠ 0 := (Real.log_pos (by norm_num)).ne'
  rw [← weight_eq Q K M, expo, if_pos h]
  rw [Real.rpow_eq_pow, Real.rpow_def_of_pos (by norm_num), mul_sub, mul_div_cancel₀ _ h2,
    show Real.log 2 * score Q K q k - (M + Real.log (total Q K M q))
      = (score Q K q k * Real.log 2 - M) - Real.log (total Q K M q) by ring,
    Real.exp_sub, Real.exp_log (total_pos Q K M q)]

/-- A hidden key has weight zero. -/
theorem weight_hidden (q : Fin 2048) (k : Fin 2176) (h : ¬ Sees q k) : weight Q K q k = 0 := by
  rw [weight, expo, if_neg h, zero_div]

/-- The output row against its gradient is the weighted sum of the weights' gradients. -/
theorem out_dot (q : Fin 2048) : ∑ d, G q d * out Q K V q d = ∑ k, weight Q K q k * gradW V G q k := by
  simp only [out, gradW, Finset.mul_sum]
  rw [Finset.sum_comm]
  exact Finset.sum_congr rfl fun k _ => Finset.sum_congr rfl fun d _ => by ring

/-- The score's gradient, as a program that keeps the output row and multiplies the gradient by `log 2` first computes it. -/
theorem gradS_of_out (q : Fin 2048) (k : Fin 2176) :
    weight Q K q k * ((∑ d, V k d * (G q d * Real.log 2)) - ∑ d, G q d * Real.log 2 * out Q K V q d) = gradS Q K V G q k := by
  have h1 : ∑ d, V k d * (G q d * Real.log 2) = gradW V G q k * Real.log 2 := by
    rw [gradW, Finset.sum_mul]; exact Finset.sum_congr rfl fun d _ => by ring
  have h2 : ∑ d, G q d * Real.log 2 * out Q K V q d = (∑ j, weight Q K q j * gradW V G q j) * Real.log 2 := by
    rw [← out_dot, Finset.sum_mul]; exact Finset.sum_congr rfl fun d _ => by ring
  rw [h1, h2, gradS]; ring

/-- The score's gradient from the exponentials and their sum: the quotient's two terms kept apart. -/
theorem gradS_of_total (M : ℝ) (q : Fin 2048) (k : Fin 2176) :
    (gradW V G q k / total Q K M q
        + -∑ j, gradW V G q j * (1 / (total Q K M q * total Q K M q)) * expo Q K M q j) * expo Q K M q k * Real.log 2
      = gradS Q K V G q k := by
  have hl := (total_pos Q K M q).ne'
  have h : ∑ j, gradW V G q j * (1 / (total Q K M q * total Q K M q)) * expo Q K M q j
      = (∑ j, weight Q K q j * gradW V G q j) / total Q K M q := by
    rw [Finset.sum_div]
    refine Finset.sum_congr rfl fun j _ => ?_
    rw [← weight_eq Q K M]; field_simp
  rw [h, gradS, ← weight_eq Q K M q k]; field_simp; ring

/-- A finite sum of reals, in the extended reals. -/
theorem coe_sum {ι : Type*} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A maximum folded from `⊥` over values below `⊤`, one of which is a real, is a real. -/
theorem fold_max_real {ι : Type*} [Fintype ι] (f : ι → EReal) (htop : ∀ i, f i ≠ ⊤) (i₀ : ι) (h₀ : f i₀ ≠ ⊥) :
    ∃ M : ℝ, Finset.univ.fold max ⊥ f = (M : EReal) := by
  have hb : Finset.univ.fold max ⊥ f ≠ ⊥ := fun h =>
    h₀ (le_bot_iff.1 (h ▸ (Finset.le_fold_max (f i₀)).2 (.inr ⟨i₀, Finset.mem_univ _, le_refl _⟩)))
  have ht : Finset.univ.fold max ⊥ f ≠ ⊤ := by
    refine (lt_top_iff_ne_top.1 ?_)
    rw [Finset.fold_max_lt]
    exact ⟨bot_lt_top, fun i _ => lt_top_iff_ne_top.2 (htop i)⟩
  exact ⟨_, (EReal.coe_toReal ht hb).symm⟩

end Attn

end
-- ==== Proof.RefMask.lean ====
/- The mask the two programs compute on the host, and the constants of the reference. -/
module

public import proofs.«01_k».proof.Proof.Gen.ReferenceIdeal.Read
public import proofs.«01_k».proof.Proof.Attn
public import Idealize.ShloMosaic.Lib.Pointwise
public import Idealize.ShloMosaic.Lib.IdealHost

@[expose] public section

set_option maxRecDepth 16384

noncomputable section

namespace Ref

open Cert.ReferenceIdeal Cert.ReferenceIdeal.Read Idealize.ShloMosaic Attn

/-- The sign of a word. -/
def signWord (x : BitVec 32) : BitVec 32 := if x = 0 then 0 else if x.msb then -1 else 1

/-- The quotient by 64, as the programs' integer division rounds it. -/
def chunkWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

theorem v6_apply (i : S2176.Idx) : val_main_v6 (F := Ideal) i = chunkWord (BitVec.ofNat 32 (i 0).val) := rfl

theorem v12_apply (i : S2048.Idx) :
    val_main_v12 (F := Ideal) i = chunkWord (IntOp.addi 128#32 (BitVec.ofNat 32 (i 0).val)) := rfl

theorem chunkWord_key : ∀ k : Fin 2176, chunkWord (BitVec.ofNat 32 k.val) = BitVec.ofNat 32 (k.val / 64) := by
  decide +kernel

theorem chunkWord_query : ∀ q : Fin 2048,
    chunkWord (IntOp.addi 128#32 (BitVec.ofNat 32 q.val)) = BitVec.ofNat 32 ((q.val + 128) / 64) := by
  decide +kernel

end Ref

end
-- ==== Proof.Rows.lean ====
/- Arrays of 2176 rows by row number: how loads, covered reads and piecewise stores of whole runs of rows read a row, and the
   sums over the rows that the tiles of the gradient kernel split. -/
module

public import Idealize.ShloMosaic.Lib.WholeRead
public import Idealize.ShloMosaic.Lib.Pipeline.FrameBody
public import Idealize.ShloMosaic.Lib.Pipeline.Value
public import Idealize.ShloMosaic.Lib.Pointwise

@[expose] public section

set_option maxRecDepth 16384

noncomputable section

namespace Rows

open Idealize.ShloMosaic

/-- An array of `N` rows and `w` columns. -/
abbrev Arr (N w : ℕ) : Shape := ⟨2, ![N, w]⟩

variable {N w : ℕ}

/-- Row `n` of `x`, by its number; rows past the end are zero. -/
def row (x : (Arr N w).Idx → EReal) (n : ℕ) (d : Fin w) : EReal := if h : n < N then x (ix2 ⟨n, h⟩ d) else 0

theorem row_lt (x : (Arr N w).Idx → EReal) (n : Fin N) (d : Fin w) : row x n.val d = x (ix2 n d) := by
  rw [row, dif_pos n.isLt]

/-- Row `r` of the rectangle of `m` rows from row `a` is row `a + r`. -/
theorem emb_row {a m : ℕ} (inb : ∀ i : Fin 2, (![a, 0] : Fin 2 → ℕ) i + (![m, w] : Fin 2 → ℕ) i ≤ (Arr N w).size i) (r : Fin m) (d : Fin w)
    (h : a + r.val < N) :
    (Rect.unit (s := Arr N w) ![a, 0] ![m, w] inb).emb (ix2 r d) = ix2 ⟨a + r.val, h⟩ d := by
  funext i
  refine Fin.ext ?_
  match i with
  | ⟨0, _⟩ => rw [Rect.emb_apply]; simp
  | ⟨1, _⟩ => rw [Rect.emb_apply]; simp

/-- Rows of such a rectangle are rows of the array. -/
theorem row_bound {a m : ℕ} (inb : ∀ i : Fin 2, (![a, 0] : Fin 2 → ℕ) i + (![m, w] : Fin 2 → ℕ) i ≤ (Arr N w).size i) (r : Fin m) : a + r.val < N :=
  lt_of_lt_of_le (Nat.add_lt_add_left r.isLt a) (inb 0)

variable {sig : RefSig} {κ : Kind} {sp : Space} {e : EltTy}

/-- A load of `m` rows from row `a` of a whole buffer of 32-bit words reads row `a + r`; -/
theorem load_row {a m : ℕ} {mr : Memref sig κ sp (Arr N w) .f32} (hm : mr.IsWhole) (x : (Arr N w).Idx → EReal)
    (inb : ∀ i : Fin 2, (![a, 0] : Fin 2 → ℕ) i + (![m, w] : Fin 2 → ℕ) i ≤ (Arr N w).size i) (r : Fin m) (d : Fin w) :
    View.readAt (Elt Ideal) mr.view (Rect.unit (s := Arr N w) ![a, 0] ![m, w] inb).toLoadRect (hm.unread x) (ix2 r d)
      = row x (a + r.val) d := by
  rw [hm.readAt_unread, row, dif_pos (row_bound inb r)]
  exact congrArg x (emb_row inb r d _)

/-- of a buffer of 16-bit words likewise. -/
theorem load_row_half {a m : ℕ} {mr : Memref sig κ sp (Arr N w) .bf16} (hm : mr.IsWhole) (x : (Arr N w).Idx → EReal)
    (inb : ∀ i : Fin 2, (![a, 0] : Fin 2 → ℕ) i + (![m, w] : Fin 2 → ℕ) i ≤ (Arr N w).size i) (r : Fin m) (d : Fin w) :
    View.readAt (Elt Ideal) mr.view (Rect.unit (s := Arr N w) ![a, 0] ![m, w] inb).toLoadRect (hm.unread x) (ix2 r d)
      = row x (a + r.val) d := by
  rw [hm.readAt_unread, row, dif_pos (row_bound inb r)]
  exact congrArg x (emb_row inb r d _)

/-- What a list of stores left in row `n`. -/
def left (L : List (View.Piece (Elt Ideal) (Arr N w) .f32)) (n : ℕ) (d : Fin w) : EReal := row (View.canon L) n d

/-- A load of `m` rows from row `a` of a buffer filled piece by piece reads what the pieces left in row `a + r`. -/
theorem cov_row {a m : ℕ} (v : View sig κ sp (Arr N w) .f32) (L : List (View.Piece (Elt Ideal) (Arr N w) .f32))
    (inb : ∀ i : Fin 2, (![a, 0] : Fin 2 → ℕ) i + (![m, w] : Fin 2 → ℕ) i ≤ (Arr N w).size i) (r : Fin m) (d : Fin w) :
    View.readCov v L (Rect.unit (s := Arr N w) ![a, 0] ![m, w] inb).toLoadRect (ix2 r d) = left L (a + r.val) d := by
  rw [View.readCov_eq_canon', left, row, dif_pos (row_bound inb r)]
  exact congrArg (View.canon L) (emb_row inb r d _)

/-- A store of `m` rows from row `a` that adds `g` to what was there. -/
theorem left_add {a m : ℕ} (inb : ∀ i : Fin 2, (![a, 0] : Fin 2 → ℕ) i + (![m, w] : Fin 2 → ℕ) i ≤ (Arr N w).size i)
    (L : List (View.Piece (Elt Ideal) (Arr N w) .f32)) (p : (Arr m w).Idx → Elt Ideal .f32) (g : ℕ → Fin w → EReal)
    (hp : ∀ (r : Fin m) (d : Fin w), p (ix2 r d) = left L (a + r.val) d + g (a + r.val) d) (k : Fin N) (d : Fin w) :
    left (⟨Rect.unit (s := Arr N w) ![a, 0] ![m, w] inb, p⟩ :: L) k.val d
      = left L k.val d + if a ≤ k.val ∧ k.val < a + m then g k.val d else 0 := by
  split
  case isTrue h =>
    have hk : k.val = a + (⟨k.val - a, by omega⟩ : Fin m).val := by simp; omega
    have := View.canon_cons_emb (Val := Elt Ideal) (Rect.unit (s := Arr N w) ![a, 0] ![m, w] inb) p L (ix2 ⟨k.val - a, by omega⟩ d)
    rw [emb_row inb _ d (row_bound inb _), hp] at this
    rw [hk, ← this, left, row, dif_pos (row_bound inb _)]
  case isFalse h =>
    rw [add_zero, left, left, row_lt, row_lt, View.canon_cons_of_not_mem]
    rw [Rect.mem_set_unit]
    intro hy
    exact h (hy 0)

/-- A store of every row leaves what it stores. -/
theorem left_whole (inb : ∀ i : Fin 2, (![0, 0] : Fin 2 → ℕ) i + (![N, w] : Fin 2 → ℕ) i ≤ (Arr N w).size i)
    (L : List (View.Piece (Elt Ideal) (Arr N w) .f32)) (p : (Arr N w).Idx → Elt Ideal .f32) (k : Fin N) (d : Fin w) :
    left (⟨Rect.unit (s := Arr N w) ![0, 0] ![N, w] inb, p⟩ :: L) k.val d = p (ix2 k d) := by
  have := View.canon_cons_emb (Val := Elt Ideal) (Rect.unit (s := Arr N w) ![0, 0] ![N, w] inb) p L (ix2 k d)
  rw [emb_row inb _ d (row_bound inb _)] at this
  rw [left, row, dif_pos k.isLt, ← this]
  congr 2
  simp

/-- A store of `m` rows from row `a` stores the rows of `f`. -/
def Tells {e : EltTy} (f : ℕ → Fin w → Elt Ideal e) (p : View.Piece (Elt Ideal) (Arr N w) e) : Prop :=
  ∀ x, p.2 x = f (p.1.emb x 0).val (p.1.emb x 1)

theorem tells_of {e : EltTy} {a m : ℕ} (f : ℕ → Fin w → Elt Ideal e)
    (inb : ∀ i : Fin 2, (![a, 0] : Fin 2 → ℕ) i + (![m, w] : Fin 2 → ℕ) i ≤ (Arr N w).size i) (p : (Arr m w).Idx → Elt Ideal e)
    (hp : ∀ (r : Fin m) (d : Fin w), p (ix2 r d) = f (a + r.val) d) :
    Tells f ⟨Rect.unit (s := Arr N w) ![a, 0] ![m, w] inb, p⟩ := by
  intro x
  obtain ⟨r, d, rfl⟩ : ∃ r d, x = ix2 r d := ⟨x 0, x 1, by funext i; match i with | ⟨0, _⟩ => rfl | ⟨1, _⟩ => rfl⟩
  refine (hp r d).trans ?_
  show _ = f (((Rect.unit (s := Arr N w) ![a, 0] ![m, w] inb).emb (ix2 r d)) 0).val _
  rw [emb_row inb r d (row_bound inb r)]
  rfl

/-- Stores that all store rows of `f` and together cover the array leave `f`. -/
theorem canon_of_tells {e : EltTy} (f : ℕ → Fin w → Elt Ideal e) (L : List (View.Piece (Elt Ideal) (Arr N w) e)) (hL : ∀ p ∈ L, Tells f p)
    (hc : ∀ y, ∃ p ∈ L, y ∈ p.1.set) (n : Fin N) (d : Fin w) : View.canon L (ix2 n d) = f n.val d :=
  View.canon_apply_of_pieces (fun y : (Arr N w).Idx => f (y 0).val (y 1)) L hL (ix2 n d) (hc _)

end Rows

end
-- ==== Proof.Tile.lean ====
/- The masks of the gradient kernel's tiles, by row numbers. -/
module

public import proofs.«01_k».proof.Proof.Rows
public import Idealize.ShloMosaic.PureOps.Ideal.Laws
public import Idealize.ShloMosaic.Lib.Tactic.WordOmega

@[expose] public section

set_option maxRecDepth 16384

noncomputable section

namespace Tile

open Idealize.ShloMosaic Rows

/-- Row `k` of the keys is seen by row `q` of the queries. -/
def Vis (k q : ℕ) : Prop := 112 ≤ k ∧ k / 64 ≤ q / 64

instance (k q : ℕ) : Decidable (Vis k q) := inferInstanceAs (Decidable (_ ∧ _))

theorem add_word (a r : ℕ) : IntOp.addi (BitVec.ofNat 32 a) (BitVec.ofNat 32 r) = BitVec.ofNat 32 (a + r) :=
  (BitVec.ofNat_add a r).symm

/-- The chunk of a row, as the kernel's shift computes it. -/
theorem chunk_word : ∀ n : Fin 2176, IntOp.shrsi .vector (BitVec.ofNat 32 n.val) 6#32 = BitVec.ofNat 32 (n.val / 64) := by
  decide +kernel

theorem chunk_word' {n : ℕ} (h : n < 2176) : IntOp.shrsi .vector (BitVec.ofNat 32 n) 6#32 = BitVec.ofNat 32 (n / 64) :=
  chunk_word ⟨n, h⟩

theorem le_word {a b : ℕ} (ha : a < 2176) (hb : b < 2176) :
    IntOp.cmpi .sle (BitVec.ofNat 32 a) (BitVec.ofNat 32 b) = BitVec.ofBool (decide (a ≤ b)) := by
  word_omega

theorem ge_word {a b : ℕ} (ha : a < 2176) (hb : b < 2176) :
    IntOp.cmpi .sge (BitVec.ofNat 32 a) (BitVec.ofNat 32 b) = BitVec.ofBool (decide (b ≤ a)) := by
  word_omega

/-- A choice by the bit of a condition. -/
theorem select_bool (p : Prop) [Decidable p] (x y : EReal) : Scalar.select (BitVec.ofBool (decide p)) x y = if p then x else y := by
  by_cases h : p <;> simp [h, Scalar.select]

/-- The full mask: the chunk comparison and the padding comparison. -/
theorem select_full {a b m n : ℕ} (hk : a + m ≤ 2176) (hq : b + n ≤ 2176) (r : Fin m) (j : Fin n) (x y : EReal) :
    Scalar.select (IntOp.andi
        (IntOp.cmpi .sle (IntOp.shrsi .vector (IntOp.addi (BitVec.ofNat 32 a) (BitVec.ofNat 32 r.val)) 6#32)
          (IntOp.shrsi .vector (IntOp.addi (BitVec.ofNat 32 b) (BitVec.ofNat 32 j.val)) 6#32))
        (IntOp.cmpi .sge (IntOp.addi (BitVec.ofNat 32 a) (BitVec.ofNat 32 r.val)) 112#32)) x y
      = if Vis (a + r.val) (b + j.val) then x else y := by
  have hr := r.isLt
  have hj := j.isLt
  rw [add_word, add_word, chunk_word' (by omega), chunk_word' (by omega), le_word (by omega) (by omega),
    ge_word (by omega) (by decide), ← select_bool]
  congr 1
  by_cases h1 : (a + r.val) / 64 ≤ (b + j.val) / 64 <;> by_cases h2 : 112 ≤ a + r.val <;> simp [Vis, h1, h2, IntOp.andi]

end Tile

end
-- ==== Proof.RefVal.lean ====
/- The reference's stages, read one entry at a time. -/
module

public import proofs.«01_k».proof.Proof.RefMask
public import proofs.«01_k».proof.Proof.Tile
public import Idealize.ShloMosaic.Lib.Pointwise
public import Idealize.ShloMosaic.Lib.IdealHost
public import Idealize.ShloMosaic.Lib.Tactic.CleanTypes

@[expose] public section

set_option maxRecDepth 16384

noncomputable section

namespace Ref

open Cert.ReferenceIdeal Cert.ReferenceIdeal.Read Idealize.ShloMosaic Attn

/-- The scale of the scores: the word the programs hold for `1 / √192`. -/
def scale : ℝ := 9686330 / 134217728

theorem scale_pos : 0 < scale := by unfold scale; norm_num

theorem scale_word : Ideal.ofBits .f32 0x3D93CD3A#32 = (scale : EReal) := by
  unfold scale
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem bot_word : Ideal.ofBits .f32 0xFF800000#32 = ⊥ := by simp [Ideal.ofBits, Ideal.ieee]

theorem log_two_word : Ideal.log (Ideal.ofBits .f32 0x40000000#32) = (Real.log 2 : EReal) := by
  rw [two_word, Ideal.log_coe, if_neg (by norm_num)]

theorem div_real (x y : ℝ) (h : y ≠ 0) : Ideal.div (x : EReal) (y : EReal) = ((x / y : ℝ) : EReal) := by
  rw [Ideal.div_coe h, ← EReal.coe_mul, mul_one_div]

/-- The factor that turns an incoming query into one whose scores are in units of `log 2`. -/
theorem unit_at (i : S_.Idx) : val_main_v1 (F := Ideal) i = ((Real.log 2 / scale : ℝ) : EReal) := by
  rw [val_main_v1_apply]
  show Ideal.div (Ideal.log (Ideal.ofBits .f32 0x40000000#32)) (Ideal.ofBits .f32 0x3D93CD3A#32) = _
  rw [log_two_word, scale_word, div_real _ _ scale_pos.ne']

variable (x0 x1 : FVec Ideal S4x2176x8x192 .f32) (x2 : FVec Ideal S4x2176x8x128 .f32) (x3 : FVec Ideal S4x2048x8x128 .f32)
variable (b : Fin 4) (h : Fin 8) (q : Fin 2048) (k : Fin 2176)

theorem query_at (d : Fin 192) :
    val_main_v4 (F := Ideal) x0 (ix4 b q h d) = x0 (ix4 b ⟨128 + q.val, by omega⟩ h d) * val_main_v1 (F := Ideal) ix0 := by
  pointwise [val_main_v4, val_main_v3, val_main_v2]

theorem sees_at : val_main_v20 (F := Ideal) (ix2 q k) = BitVec.ofBool (decide (Sees q k)) := by
  have e : val_main_v20 (F := Ideal) (ix2 q k) = IntOp.andi
      (IntOp.cmpi .sle (val_main_v6 (F := Ideal) (ix1 k)) (val_main_v12 (F := Ideal) (ix1 q)))
      (IntOp.cmpi .sge (BitVec.ofNat 32 k.val) 112#32) := by
    pointwise [val_main_v20, val_main_v17, val_main_v15, val_main_v16, val_main_v13, val_main_v14, val_main_v19, val_main_v18,
      val_main_v8, val_main_v7, val_main_v5, val_main_c_1]
  rw [e, v6_apply, v12_apply]
  show IntOp.andi (IntOp.cmpi .sle (chunkWord (BitVec.ofNat 32 k.val)) (chunkWord (IntOp.addi 128#32 (BitVec.ofNat 32 q.val)))) _ = _
  rw [chunkWord_key, chunkWord_query, Tile.le_word (by omega) (by omega), Tile.ge_word (by omega) (by omega)]
  by_cases h1 : 112 ≤ k.val <;> by_cases h2 : k.val / 64 ≤ (q.val + 128) / 64 <;> simp [Sees, IntOp.andi, h1, h2]

theorem mask_at : val_main_v25_1 (F := Ideal) (ix4 b h q k) = BitVec.ofBool (decide (Sees q k)) := by
  rw [← sees_at, val_main_v25_1_apply, val_main_v24_apply]
  exact congrArg _ (funext fun a => match a with | ⟨0, _⟩ => rfl | ⟨1, _⟩ => rfl)

theorem score_at : val_main_v25_0 (F := Ideal) x0 x1 (ix4 b h q k) = if Sees q k then
    (∑ d, val_main_v4 (F := Ideal) x0 (ix4 b q h d) * x1 (ix4 b k h d)) * (scale : EReal) else ⊥ := by
  have e : val_main_v25_0 (F := Ideal) x0 x1 (ix4 b h q k) = Scalar.select (val_main_v20 (F := Ideal) (ix2 q k))
      ((∑ d, val_main_v4 (F := Ideal) x0 (ix4 b q h d) * x1 (ix4 b k h d)) * Ideal.ofBits .f32 0x3D93CD3A#32)
      (Ideal.ofBits .f32 0xFF800000#32) := by
    pointwise [val_main_v25_0, val_main_v25_1, val_main_v24, val_main_v23, val_main_v21, val_main_v22, val_main_call2_v2,
      val_main_call2_v0, val_main_cst_5, val_main_cst_4]
    rfl
  rw [e, sees_at, Tile.select_bool, scale_word, bot_word]

theorem top_at : val_main_v26 (F := Ideal) x0 x1 (ix3 b h q)
    = Finset.univ.fold max ⊥ fun j : Fin 2176 => val_main_v25_0 (F := Ideal) x0 x1 (ix4 b h q j) := by
  unfold val_main_v26
  generalize val_main_v25_0 (F := Ideal) x0 x1 = y
  clean_types
  pointwise [val_main_cst_6]
  rw [bot_word]

theorem expo_at : val_main_v46 (F := Ideal) x0 x1 (ix4 b h q k) = Ideal.exp
    (val_main_v25_0 (F := Ideal) x0 x1 (ix4 b h q k) - max ⊥ (val_main_v26 (F := Ideal) x0 x1 (ix3 b h q))) := by
  rw [val_main_v46_apply, val_main_v45_apply, val_main_v44_apply, val_main_v43_apply, val_main_v33_apply, val_main_v32_apply,
    val_main_cst_8_apply]
  rw [show idx_main_v43 (idx_main_v44 (ix4 b h q k)) = ix3 b h q from
    funext fun a => match a with | ⟨0, _⟩ => rfl | ⟨1, _⟩ => rfl | ⟨2, _⟩ => rfl]
  rw [← bot_word]
  generalize val_main_v26 (F := Ideal) x0 x1 = y
  generalize val_main_v25_0 (F := Ideal) x0 x1 = z
  rfl

theorem total_at : val_main_v47 (F := Ideal) x0 x1 (ix3 b h q) = ∑ j, val_main_v46 (F := Ideal) x0 x1 (ix4 b h q j) := by
  unfold val_main_v47
  generalize val_main_v46 (F := Ideal) x0 x1 = y
  pointwise [val_main_cst_14]

/-- The gradient of the scores, before the scale. -/
theorem slope_at : val_main_v72 (F := Ideal) x0 x1 x2 x3 (ix4 b h q k) = if Sees q k then
    (Ideal.div (∑ d, x3 (ix4 b q h d) * x2 (ix4 b k h d)) (val_main_v47 (F := Ideal) x0 x1 (ix3 b h q))
      + -∑ j, (∑ d, x3 (ix4 b q h d) * x2 (ix4 b j h d))
          * Ideal.div ((1 : ℝ) : EReal) (val_main_v47 (F := Ideal) x0 x1 (ix3 b h q) * val_main_v47 (F := Ideal) x0 x1 (ix3 b h q))
          * val_main_v46 (F := Ideal) x0 x1 (ix4 b h q j)) * val_main_v46 (F := Ideal) x0 x1 (ix4 b h q k) else 0 := by
  rw [val_main_v72_apply, mask_at, Tile.select_bool]
  have z : val_main_call3_v0 (F := Ideal) (ix4 b h q k) = 0 := by
    rw [val_main_call3_v0_apply]; exact Ideal.ofBits_zero_f32
  rw [z]
  refine if_congr Iff.rfl ?_ rfl
  unfold val_main_v71 val_main_v70 val_main_v67 val_main_v69 val_main_v68 val_main_v66 val_main_v65 val_main_v64 val_main_v63
    val_main_v62 val_main_v61 val_main_v60 val_main_v53 val_main_v52 val_main_v51 val_main_v48
  generalize val_main_v47 (F := Ideal) x0 x1 = l
  generalize val_main_v46 (F := Ideal) x0 x1 = e
  rw [← one_word]
  pointwise [val_main_v57, val_main_v56, val_main_cst_15, val_main_cst_16, val_main_cst_17]
  rw [Fin.sum_univ_one]

theorem pad_q (i : S_.Idx) : val_main_call4_v0 (F := Ideal) i = 0 := by
  have e : val_main_call4_v0 (F := Ideal) i = Scalar.sitofp (F := Ideal) .f32 0#32 := rfl
  rw [e, Ideal.scalar_sitofp_def]
  simp

theorem pad_k (i : S_.Idx) : val_main_call5_v0 (F := Ideal) i = 0 := by
  have e : val_main_call5_v0 (F := Ideal) i = Scalar.sitofp (F := Ideal) .f32 0#32 := rfl
  rw [e, Ideal.scalar_sitofp_def]
  simp

theorem pad_row (i : S_.Idx) : val_main_cst_19 (F := Ideal) i = 0 := by
  rw [val_main_cst_19_apply]; exact Ideal.ofBits_zero_f32

theorem dq_at (R : Fin 8704) (C : Fin 2048) : val_main_v84 (F := Ideal) x0 x1 x2 x3 (ix2 R C)
    = if hd : C.val % 256 < 192 then
        (if hs : 128 ≤ R.val % 2176 then
          ∑ j, val_main_v74 (F := Ideal) x0 x1 x2 x3
              (ix4 ⟨R.val / 2176, by omega⟩ ⟨C.val / 256, by omega⟩ ⟨R.val % 2176 - 128, by omega⟩ j)
            * x1 (ix4 ⟨R.val / 2176, by omega⟩ j ⟨C.val / 256, by omega⟩ ⟨C.val % 256, hd⟩)
        else 0) * val_main_v1 (F := Ideal) ix0
      else 0 := by
  pointwise [val_main_v84, val_main_v83, val_main_v82, val_main_v81, val_main_v80, val_main_v79, val_main_v78, val_main_v77]
  refine dite_congr (propext ⟨fun e => e.2.2.2, fun e => ⟨by omega, by omega, by omega, e⟩⟩) (fun hd => ?_) fun _ => pad_q _
  refine congrArg (· * val_main_v1 (F := Ideal) ix0) ?_
  exact dite_congr (propext ⟨fun e => e.2.1.1, fun e => ⟨by omega, ⟨e, by omega⟩, by omega, hd⟩⟩) (fun hs => rfl) fun _ => pad_row _

theorem dk_at (R : Fin 8704) (C : Fin 2048) : val_main_v87 (F := Ideal) x0 x1 x2 x3 (ix2 R C)
    = if hd : C.val % 256 < 192 then
        ∑ n, val_main_v74 (F := Ideal) x0 x1 x2 x3
            (ix4 ⟨R.val / 2176, by omega⟩ ⟨C.val / 256, by omega⟩ n ⟨R.val % 2176, by omega⟩)
          * val_main_v4 (F := Ideal) x0 (ix4 ⟨R.val / 2176, by omega⟩ n ⟨C.val / 256, by omega⟩ ⟨C.val % 256, hd⟩)
      else 0 := by
  pointwise [val_main_v87, val_main_v86, val_main_v85, val_main_v76, val_main_v75]
  exact dite_congr (propext ⟨fun e => e.2.2.2, fun e => ⟨by omega, by omega, by omega, e⟩⟩) (fun hd => rfl) fun _ => pad_k _

theorem dv_at (R : Fin 8704) (C : Fin 1024) : val_main_v89 (F := Ideal) x0 x1 x3 (ix2 R C)
    = ∑ n, x3 (ix4 ⟨R.val / 2176, by omega⟩ n ⟨C.val / 128, by omega⟩ ⟨C.val % 128, by omega⟩)
        * Ideal.div (val_main_v46 (F := Ideal) x0 x1
            (ix4 ⟨R.val / 2176, by omega⟩ ⟨C.val / 128, by omega⟩ n ⟨R.val % 2176, by omega⟩))
          (val_main_v47 (F := Ideal) x0 x1 (ix3 ⟨R.val / 2176, by omega⟩ ⟨C.val / 128, by omega⟩ n)) := by
  unfold val_main_v89 val_main_v88 val_main_v59 val_main_v58 val_main_v50 val_main_v49 val_main_v48
  generalize val_main_v47 (F := Ideal) x0 x1 = l
  generalize val_main_v46 (F := Ideal) x0 x1 = e
  pointwise [val_main_v56]

end Ref

end
-- ==== Proof.RefReal.lean ====
/- The reference's gradients of one head are the attention's gradients over the reals, when the inputs are reals. -/
module

public import proofs.«01_k».proof.Proof.RefVal

@[expose] public section

set_option maxRecDepth 16384

noncomputable section

namespace Ref

open Cert.ReferenceIdeal Cert.ReferenceIdeal.Read Idealize.ShloMosaic Attn

variable (x0 x1 : FVec Ideal S4x2176x8x192 .f32) (x2 : FVec Ideal S4x2176x8x128 .f32) (x3 : FVec Ideal S4x2048x8x128 .f32)
variable (b : Fin 4) (h : Fin 8)
variable (Q : Fin 2048 → Fin 192 → ℝ) (K : Fin 2176 → Fin 192 → ℝ) (V : Fin 2176 → Fin 128 → ℝ) (G : Fin 2048 → Fin 128 → ℝ)

/-- The inputs' rows of head `h` of example `b`, as reals. -/
structure Head : Prop where
  q : ∀ n d, x0 (ix4 b ⟨128 + n.val, by omega⟩ h d) = (Q n d : EReal)
  k : ∀ n d, x1 (ix4 b n h d) = (K n d : EReal)
  v : ∀ n d, x2 (ix4 b n h d) = (V n d : EReal)
  g : ∀ n d, x3 (ix4 b n h d) = (G n d : EReal)

variable {x0 x1 x2 x3 b h Q K V G} (H : Head x0 x1 x2 x3 b h Q K V G)
include H

theorem query_real (q : Fin 2048) (d : Fin 192) :
    val_main_v4 (F := Ideal) x0 (ix4 b q h d) = ((Q q d * (Real.log 2 / scale) : ℝ) : EReal) := by
  rw [query_at, unit_at, H.q, EReal.coe_mul]

theorem score_real (q : Fin 2048) (k : Fin 2176) : val_main_v25_0 (F := Ideal) x0 x1 (ix4 b h q k)
    = if Sees q k then ((score Q K q k * Real.log 2 : ℝ) : EReal) else ⊥ := by
  rw [score_at]
  refine if_congr Iff.rfl ?_ rfl
  have e : score Q K q k * Real.log 2 = (∑ d, Q q d * (Real.log 2 / scale) * K k d) * scale := by
    rw [score, Finset.sum_mul, Finset.sum_mul]
    refine Finset.sum_congr rfl fun d _ => ?_
    have := scale_pos.ne'
    field_simp
  rw [e, EReal.coe_mul, coe_sum]
  refine congrArg (· * (scale : EReal)) (Finset.sum_congr rfl fun d _ => ?_)
  rw [query_real H, H.k, ← EReal.coe_mul]

theorem top_real (q : Fin 2048) : ∃ M : ℝ, val_main_v26 (F := Ideal) x0 x1 (ix3 b h q) = (M : EReal) := by
  rw [top_at]
  refine fold_max_real _ (fun k => ?_) ⟨112, by decide⟩ ?_
  · rw [score_real H]; split
    · exact EReal.coe_ne_top _
    · exact bot_ne_top
  · rw [score_real H, if_pos (sees_lead q)]; exact EReal.coe_ne_bot _

variable {M : Fin 2048 → ℝ} (hM : ∀ q, val_main_v26 (F := Ideal) x0 x1 (ix3 b h q) = (M q : EReal))
include hM

theorem expo_real (q : Fin 2048) (k : Fin 2176) :
    val_main_v46 (F := Ideal) x0 x1 (ix4 b h q k) = (expo Q K (M q) q k : EReal) := by
  rw [expo_at, score_real H, hM, max_eq_right bot_le, expo]
  split
  · rw [← EReal.coe_sub, Ideal.exp_coe]
  · rw [EReal.bot_sub, Ideal.exp_bot]; rfl

theorem total_real (q : Fin 2048) : val_main_v47 (F := Ideal) x0 x1 (ix3 b h q) = (total Q K (M q) q : EReal) := by
  rw [total_at, total, coe_sum]
  exact Finset.sum_congr rfl fun k _ => expo_real H hM q k

theorem weight_real (q : Fin 2048) (k : Fin 2176) : Ideal.div (val_main_v46 (F := Ideal) x0 x1 (ix4 b h q k))
    (val_main_v47 (F := Ideal) x0 x1 (ix3 b h q)) = (weight Q K q k : EReal) := by
  rw [expo_real H hM, total_real H hM, div_real _ _ (total_pos Q K (M q) q).ne', weight_eq]

omit hM in
theorem gradW_real (q : Fin 2048) (k : Fin 2176) :
    ∑ d, x3 (ix4 b q h d) * x2 (ix4 b k h d) = (gradW V G q k : EReal) := by
  rw [gradW, coe_sum]
  exact Finset.sum_congr rfl fun d _ => by rw [H.g, H.v, EReal.coe_mul]

theorem slope_real (q : Fin 2048) (k : Fin 2176) : val_main_v74 (F := Ideal) x0 x1 x2 x3 (ix4 b h q k)
    = ((gradS Q K V G q k / Real.log 2 * scale : ℝ) : EReal) := by
  have h2 : Real.log 2 ≠ 0 := (Real.log_pos (by norm_num)).ne'
  have hl := (total_pos Q K (M q) q).ne'
  have hz : val_main_v73 (F := Ideal) (ix4 b h q k) = (scale : EReal) := by
    rw [val_main_v73_apply, val_main_cst_18_apply]; exact scale_word
  have e : val_main_v72 (F := Ideal) x0 x1 x2 x3 (ix4 b h q k) = ((gradS Q K V G q k / Real.log 2 : ℝ) : EReal) := by
    rw [slope_at]
    split
    · rw [← gradS_of_total Q K V G (M q), mul_div_cancel_right₀ _ h2, EReal.coe_mul, EReal.coe_add, EReal.coe_neg, coe_sum,
        gradW_real H, total_real H hM, expo_real H hM, div_real _ _ hl, ← EReal.coe_mul (total Q K (M q) q),
        div_real _ _ (mul_ne_zero hl hl)]
      refine congrArg (fun t => (_ + -t) * _) (Finset.sum_congr rfl fun j _ => ?_)
      rw [gradW_real H, expo_real H hM, ← EReal.coe_mul, ← EReal.coe_mul]
    · next hs => rw [gradS, weight_hidden Q K q k hs]; simp
  rw [val_main_v74_apply, hz, e, EReal.coe_mul]
  rfl

theorem dq_real (q : Fin 2048) (d : Fin 192) : (∑ j, val_main_v74 (F := Ideal) x0 x1 x2 x3 (ix4 b h q j) * x1 (ix4 b j h d))
    * val_main_v1 (F := Ideal) ix0 = (gradQ Q K V G q d : EReal) := by
  have h2 : Real.log 2 ≠ 0 := (Real.log_pos (by norm_num)).ne'
  have e : gradQ Q K V G q d = (∑ j, gradS Q K V G q j / Real.log 2 * scale * K j d) * (Real.log 2 / scale) := by
    rw [gradQ, Finset.sum_mul]
    refine Finset.sum_congr rfl fun j _ => ?_
    have := scale_pos.ne'
    field_simp
  rw [e, EReal.coe_mul, coe_sum, unit_at]
  refine congrArg (· * _) (Finset.sum_congr rfl fun j _ => ?_)
  rw [slope_real H hM, H.k, ← EReal.coe_mul]

theorem dk_real (k : Fin 2176) (d : Fin 192) : ∑ n, val_main_v74 (F := Ideal) x0 x1 x2 x3 (ix4 b h n k)
    * val_main_v4 (F := Ideal) x0 (ix4 b n h d) = (gradK Q K V G k d : EReal) := by
  have h2 : Real.log 2 ≠ 0 := (Real.log_pos (by norm_num)).ne'
  rw [gradK, coe_sum]
  refine Finset.sum_congr rfl fun n _ => ?_
  rw [slope_real H hM, query_real H, ← EReal.coe_mul]
  have := scale_pos.ne'
  congr 1
  field_simp

theorem dv_real (k : Fin 2176) (d : Fin 128) : ∑ n, x3 (ix4 b n h d) * Ideal.div (val_main_v46 (F := Ideal) x0 x1 (ix4 b h n k))
    (val_main_v47 (F := Ideal) x0 x1 (ix3 b h n)) = (gradV Q K G k d : EReal) := by
  rw [gradV, coe_sum]
  exact Finset.sum_congr rfl fun n _ => by rw [weight_real H hM, H.g, ← EReal.coe_mul, mul_comm]

end Ref

end
-- ==== Proof.Host.lean ====
/- The operands the kernel's host operations prepare, as terms of the four inputs, and their entries. -/
module

public import proofs.«01_k».proof.Proof.Gen.KernelIdeal.Frame
public import proofs.«01_k».proof.Proof.RefReal
public import Idealize.ShloMosaic.Lib.StableHlo.ReadAt

@[expose] public section

set_option maxRecDepth 16384

noncomputable section

namespace Operand

open Cert.KernelIdeal Cert.KernelIdeal.Gen Idealize.ShloMosaic Idealize.ShloMosaic.TcCoe Idealize.SL.Sem

/-- The inputs: queries and keys, values, and the gradient of the output. -/
abbrev Rows192 := FVec Ideal S4x2176x8x192 .f32
abbrev Rows128 := FVec Ideal S4x2176x8x128 .f32
abbrev Rows2048 := FVec Ideal S4x2048x8x128 .f32

variable (x0 x1 : Rows192) (x2 : Rows128) (x3 : Rows2048)

/-- The largest score of each query, as a column. -/
def topCol : FVec Ideal S4x8x2048x1 .f32 := broadcastInDim S4x8x2048x1 ![0, 1, 2] bcast_S4x8x2048_S4x8x2048x1_0_1_2
  (Cert.ReferenceIdeal.Read.val_main_v26 (F := Ideal) x0 x1)

/-- The exponentials of the lowered scores, and their sums. -/
def expos : FVec Ideal S4x8x2048x2176 .f32 := Host.exp (subf (Cert.ReferenceIdeal.Read.val_main_v25_0 (F := Ideal) x0 x1)
  (broadcastInDim S4x8x2048x2176 ![0, 1, 2, 3] bcast_S4x8x2048x1_S4x8x2048x2176_0_1_2_3 (topCol x0 x1)))
def sums : FVec Ideal S4x8x2048 .f32 :=
  Host.reduceAdd (expos x0 x1) (constant (F := Ideal) S_ .f32 0#32) reducesTo_S4x8x2048x2176_S4x8x2048_d3 h_S_
def sumCol : FVec Ideal S4x8x2048x1 .f32 := broadcastInDim S4x8x2048x1 ![0, 1, 2] bcast_S4x8x2048_S4x8x2048x1_0_1_2 (sums x0 x1)

/-- The attention's output. -/
def outs : Rows2048 := transpose S4x2048x8x128 [0, 3, 1, 2] (Host.dotGeneral dot_S4x2176x8x128_S4x8x2048x2176_S4x8x128x2048_1_3_3_2_02_01 none x2
  (Host.divf (expos x0 x1) (broadcastInDim S4x8x2048x2176 ![0, 1, 2, 3] bcast_S4x8x2048x1_S4x8x2048x2176_0_1_2_3 (sumCol x0 x1))))
  transposes_S4x8x128x2048_S4x2048x8x128_0_3_1_2

/-- The logarithm, to base 2, of each query's sum. -/
def logs : Rows2048 := broadcastInDim S4x2048x8x128 ![0, 1, 2, 3] bcast_S4x2048x8x1_S4x2048x8x128_0_1_2_3
  (transpose S4x2048x8x1 [0, 2, 1, 3] (Host.divf (addf (topCol x0 x1) (Host.log (sumCol x0 x1)))
    (broadcastInDim S4x8x2048x1 ![] bcast_S_S4x8x2048x1 (Host.log (constant (F := Ideal) S_ .f32 0x40000000#32))))
    transposes_S4x8x2048x1_S4x2048x8x1_0_2_1_3)

/-- An input's rows of 192 lanes, padded to 256 and laid out head by head. -/
def lanes (x : Rows192) : FVec Ideal S8704x2048 .bf16 := truncf .bf16 (shapeCast S8704x2048
  (pad S4x2176x8x256 ![0, 0, 0, 0] ![0, 0, 0, 64] ![0, 0, 0, 0] x (sitofp (F := Ideal) .f32 (constantI S_ 32 0#32))
    pads_S4x2176x8x192_S4x2176x8x256_000_000_000_0640 h_S_) shapeCasts_S4x2176x8x256_S8704x2048)

/-- The queries' rows, behind 128 rows of zeros, laid out head by head. -/
def behind (x : Rows2048) : FVec Ideal S8704x1024 .f32 := shapeCast S8704x1024
  (pad S4x2176x8x128 ![0, 128, 0, 0] ![0, 0, 0, 0] ![0, 0, 0, 0] x (sitofp (F := Ideal) .f32 (constantI S_ 32 0#32))
    pads_S4x2048x8x128_S4x2176x8x128_000_12800_000_000 h_S_) shapeCasts_S4x2176x8x128_S8704x1024

/-- The values' rows, laid out head by head. -/
def flat (x : Rows128) : FVec Ideal S8704x1024 .bf16 := truncf .bf16 (shapeCast S8704x1024 x shapeCasts_S4x2176x8x128_S8704x1024)

theorem zero_word (i : S_.Idx) : sitofp (F := Ideal) .f32 (constantI S_ 32 0#32) i = 0 := by
  have e : sitofp (F := Ideal) .f32 (constantI S_ 32 0#32) i = Scalar.sitofp (F := Ideal) .f32 0#32 := rfl
  rw [e, Ideal.scalar_sitofp_def]
  simp

theorem lanes_at (x : Rows192) (R : Fin 8704) (C : Fin 2048) : lanes x (ix2 R C) = if hd : C.val % 256 < 192 then
    x (ix4 ⟨R.val / 2176, by omega⟩ ⟨R.val % 2176, by omega⟩ ⟨C.val / 256, by omega⟩ ⟨C.val % 256, hd⟩) else 0 := by
  unfold lanes
  have hz := zero_word (Shape.Idx.first h_S_)
  generalize sitofp (F := Ideal) .f32 (constantI S_ 32 0#32) = z at hz ⊢
  pointwise
  exact dite_congr (propext ⟨fun e => e.2.2.2, fun e => ⟨by omega, by omega, by omega, e⟩⟩) (fun hd => rfl) fun _ => hz

theorem behind_at (x : Rows2048) (R : Fin 8704) (C : Fin 1024) : behind x (ix2 R C) = if hs : 128 ≤ R.val % 2176 then
    x (ix4 ⟨R.val / 2176, by omega⟩ ⟨R.val % 2176 - 128, by omega⟩ ⟨C.val / 128, by omega⟩ ⟨C.val % 128, by omega⟩) else 0 := by
  unfold behind
  have hz := zero_word (Shape.Idx.first h_S_)
  generalize sitofp (F := Ideal) .f32 (constantI S_ 32 0#32) = z at hz ⊢
  pointwise
  exact dite_congr (propext ⟨fun e => e.2.1.1, fun e => ⟨by omega, ⟨e, by omega⟩, by omega, by omega⟩⟩) (fun hd => rfl) fun _ => hz

theorem flat_at (x : Rows128) (R : Fin 8704) (C : Fin 1024) : flat x (ix2 R C)
    = x (ix4 ⟨R.val / 2176, by omega⟩ ⟨R.val % 2176, by omega⟩ ⟨C.val / 128, by omega⟩ ⟨C.val % 128, by omega⟩) := by
  unfold flat
  pointwise

variable (b : Fin 4) (h : Fin 8) (q : Fin 2048)

theorem expos_at (k : Fin 2176) : expos x0 x1 (ix4 b h q k) = Ideal.exp
    (Cert.ReferenceIdeal.Read.val_main_v25_0 (F := Ideal) x0 x1 (ix4 b h q k)
      - Cert.ReferenceIdeal.Read.val_main_v26 (F := Ideal) x0 x1 (ix3 b h q)) := by
  unfold expos topCol
  generalize Cert.ReferenceIdeal.Read.val_main_v26 (F := Ideal) x0 x1 = y
  generalize Cert.ReferenceIdeal.Read.val_main_v25_0 (F := Ideal) x0 x1 = z
  pointwise

theorem sums_at : sums x0 x1 (ix3 b h q) = ∑ k, expos x0 x1 (ix4 b h q k) := by
  unfold sums
  generalize expos x0 x1 = y
  pointwise

theorem outs_at (d : Fin 128) : outs x0 x1 x2 (ix4 b q h d)
    = ∑ k, x2 (ix4 b k h d) * Ideal.div (expos x0 x1 (ix4 b h q k)) (sums x0 x1 (ix3 b h q)) := by
  unfold outs sumCol
  generalize sums x0 x1 = l
  generalize expos x0 x1 = y
  have e (w : FVec Ideal S4x8x2048x2176 .f32) : transpose S4x2048x8x128 [0, 3, 1, 2]
      (Host.dotGeneral dot_S4x2176x8x128_S4x8x2048x2176_S4x8x128x2048_1_3_3_2_02_01 none x2 w)
      transposes_S4x8x128x2048_S4x2048x8x128_0_3_1_2 (ix4 b q h d) = ∑ k, x2 (ix4 b k h d) * w (ix4 b h q k) := by
    pointwise
  have e' (k : Fin 2176) : Host.divf y (broadcastInDim S4x8x2048x2176 ![0, 1, 2, 3] bcast_S4x8x2048x1_S4x8x2048x2176_0_1_2_3
      (broadcastInDim S4x8x2048x1 ![0, 1, 2] bcast_S4x8x2048_S4x8x2048x1_0_1_2 l)) (ix4 b h q k)
      = Ideal.div (y (ix4 b h q k)) (l (ix3 b h q)) := by
    pointwise
  rw [e]
  exact Finset.sum_congr rfl fun k _ => by rw [e']

theorem log_col (l : FVec Ideal S4x8x2048 .f32) :
    Host.log (broadcastInDim S4x8x2048x1 ![0, 1, 2] bcast_S4x8x2048_S4x8x2048x1_0_1_2 l) (ix4 b h q 0) = Ideal.log (l (ix3 b h q)) := by
  pointwise

theorem quotient_at (d : Fin 128) (y : FVec Ideal S4x8x2048 .f32) (g : FVec Ideal S4x8x2048x1 .f32) (w : FVec Ideal S_ .f32) :
    broadcastInDim S4x2048x8x128 ![0, 1, 2, 3] bcast_S4x2048x8x1_S4x2048x8x128_0_1_2_3
      (transpose S4x2048x8x1 [0, 2, 1, 3] (Host.divf (addf (broadcastInDim S4x8x2048x1 ![0, 1, 2] bcast_S4x8x2048_S4x8x2048x1_0_1_2 y) g)
        (broadcastInDim S4x8x2048x1 ![] bcast_S_S4x8x2048x1 w)) transposes_S4x8x2048x1_S4x2048x8x1_0_2_1_3) (ix4 b q h d)
      = Ideal.div (y (ix3 b h q) + g (ix4 b h q 0)) (w ix0) := by
  pointwise

theorem logs_at (d : Fin 128) : logs x0 x1 (ix4 b q h d) = Ideal.div
    (Cert.ReferenceIdeal.Read.val_main_v26 (F := Ideal) x0 x1 (ix3 b h q) + Ideal.log (sums x0 x1 (ix3 b h q)))
    (Ideal.log (Ideal.ofBits .f32 0x40000000#32)) := by
  have h0 : Host.log (constant (F := Ideal) S_ .f32 0x40000000#32) ix0 = Ideal.log (Ideal.ofBits .f32 0x40000000#32) := rfl
  have h1 : Host.log (sumCol x0 x1) (ix4 b h q 0) = Ideal.log (sums x0 x1 (ix3 b h q)) := log_col b h q (sums x0 x1)
  rw [← h0, ← h1]
  exact quotient_at b h q d (Cert.ReferenceIdeal.Read.val_main_v26 (F := Ideal) x0 x1) (Host.log (sumCol x0 x1))
    (Host.log (constant (F := Ideal) S_ .f32 0x40000000#32))

section
variable {x0 x1 x2 x3 b h} {Q : Fin 2048 → Fin 192 → ℝ} {K : Fin 2176 → Fin 192 → ℝ} {V : Fin 2176 → Fin 128 → ℝ}
  {G : Fin 2048 → Fin 128 → ℝ} (H : Ref.Head x0 x1 x2 x3 b h Q K V G) {M : Fin 2048 → ℝ}
  (hM : ∀ q, Cert.ReferenceIdeal.Read.val_main_v26 (F := Ideal) x0 x1 (ix3 b h q) = (M q : EReal))
include H hM

theorem expos_real (q : Fin 2048) (k : Fin 2176) : expos x0 x1 (ix4 b h q k) = (Attn.expo Q K (M q) q k : EReal) := by
  rw [expos_at, ← Ref.expo_real H hM, Ref.expo_at, max_eq_right bot_le]

theorem sums_real (q : Fin 2048) : sums x0 x1 (ix3 b h q) = (Attn.total Q K (M q) q : EReal) := by
  rw [sums_at, Attn.total, Attn.coe_sum]
  exact Finset.sum_congr rfl fun k _ => expos_real H hM q k

theorem outs_real (q : Fin 2048) (d : Fin 128) : outs x0 x1 x2 (ix4 b q h d) = (Attn.out Q K V q d : EReal) := by
  rw [outs_at, Attn.out, Attn.coe_sum]
  refine Finset.sum_congr rfl fun k _ => ?_
  rw [expos_real H hM, sums_real H hM, Ref.div_real _ _ (Attn.total_pos Q K (M q) q).ne', Attn.weight_eq, H.v, ← EReal.coe_mul,
    mul_comm]

theorem logs_real (q : Fin 2048) (d : Fin 128) : logs x0 x1 (ix4 b q h d)
    = (((M q + Real.log (Attn.total Q K (M q) q)) / Real.log 2 : ℝ) : EReal) := by
  have h2 : Real.log 2 ≠ 0 := (Real.log_pos (by norm_num)).ne'
  rw [logs_at, Ref.log_two_word, sums_real H hM, hM, Ideal.log_coe, if_neg (Attn.total_pos Q K (M q) q).not_ge, ← EReal.coe_add,
    Ref.div_real _ _ h2]

end

variable (m : (ℓ : Loc nD τ sig) → Buf (Elt Ideal) ℓ) (c : Dev nD)

theorem v46_eq : V m c main_v46 = lanes (m ((c : Thread nD τ).loc main_arg0)) := by
  unfold V
  after_reads_simp
  simp -implicitDefEqProofs only [StableHlo.TRef.toBuf, StableHlo.TRef.ofBuf, cast_cast, cast_eq]
  rfl

theorem v49_eq : V m c main_v49 = lanes (m ((c : Thread nD τ).loc main_arg1)) := by
  unfold V
  after_reads_simp
  simp -implicitDefEqProofs only [StableHlo.TRef.toBuf, StableHlo.TRef.ofBuf, cast_cast, cast_eq]
  rfl

theorem v51_eq : V m c main_v51 = flat (m ((c : Thread nD τ).loc main_arg2)) := by
  unfold V
  after_reads_simp
  rfl

theorem v57_eq : V m c main_v57 = behind (m ((c : Thread nD τ).loc main_arg3)) := by
  unfold V
  after_reads_simp
  simp -implicitDefEqProofs only [StableHlo.TRef.toBuf, StableHlo.TRef.ofBuf, cast_cast, cast_eq]
  rfl

theorem v53_eq : V m c main_v53 = behind (outs (m ((c : Thread nD τ).loc main_arg0)) (m ((c : Thread nD τ).loc main_arg1))
    (m ((c : Thread nD τ).loc main_arg2))) := by
  unfold V
  after_reads_simp
  simp -implicitDefEqProofs only [StableHlo.TRef.toBuf, StableHlo.TRef.ofBuf, cast_cast, cast_eq]
  rfl

theorem v55_eq : V m c main_v55 = behind (logs (m ((c : Thread nD τ).loc main_arg0)) (m ((c : Thread nD τ).loc main_arg1))) := by
  unfold V
  after_reads_simp
  simp -implicitDefEqProofs only [StableHlo.TRef.toBuf, StableHlo.TRef.ofBuf, cast_cast, cast_eq]
  rfl

end Operand

end
-- ==== Proof.Gather.lean ====
/- How fifteen tile steps of the gradient kernel gather one sum over all query rows, and how a row of tiles gathers one sum over
   all key rows: what lies beyond the tiles is hidden and adds nothing. -/
module

public import proofs.«01_k».proof.Proof.Tile

@[expose] public section

set_option maxRecDepth 16384

noncomputable section

namespace Tile

open Idealize.ShloMosaic Rows

variable {w : ℕ}

/-- `L'` holds what `L` held, and in the `m` rows from row `a` also what the `n` query rows from row `b` add. -/
def Adds (g : ℕ → ℕ → Fin w → EReal) (L' L : List (View.Piece (Elt Ideal) (Arr 2176 w) .f32)) (b n a m : ℕ) : Prop :=
  ∀ (k : Fin 2176) (d : Fin w), left L' k.val d = left L k.val d + if a ≤ k.val ∧ k.val < a + m then ∑ j : Fin n, g (b + j.val) k.val d else 0

theorem adds_of (g : ℕ → ℕ → Fin w → EReal) {b n a m : ℕ} (inb : ∀ i : Fin 2, (![a, 0] : Fin 2 → ℕ) i + (![m, w] : Fin 2 → ℕ) i ≤ (Arr 2176 w).size i)
    (L : List (View.Piece (Elt Ideal) (Arr 2176 w) .f32)) (p : (Arr m w).Idx → Elt Ideal .f32)
    (hp : ∀ (r : Fin m) (d : Fin w), p (ix2 r d) = left L (a + r.val) d + ∑ j : Fin n, g (b + j.val) (a + r.val) d) :
    Adds g (⟨Rect.unit (s := Arr 2176 w) ![a, 0] ![m, w] inb, p⟩ :: L) L b n a m :=
  left_add inb L p (fun k d => ∑ j : Fin n, g (b + j.val) k d) hp

variable (g : ℕ → ℕ → Fin w → EReal) (hid : ∀ q k d, ¬ Vis k q → g q k d = 0)
include hid

/-- Rows beyond the chunk of the last query row get nothing. -/
theorem beyond {b n k : ℕ} (hm : (b + n) % 64 = 0) (hk : b + n ≤ k) (d : Fin w) : ∑ j : Fin n, g (b + j.val) k d = 0 :=
  Finset.sum_eq_zero fun j _ => hid _ _ _ fun h => by have := h.2; have := j.isLt; omega

/-- One tile that reaches the chunk of the last query row. -/
theorem one {L' L : List (View.Piece (Elt Ideal) (Arr 2176 w) .f32)} {b n m : ℕ} (h : Adds g L' L b n 0 m) (hm : b + n = m)
    (hz : m % 64 = 0) (k : Fin 2176) (d : Fin w) : left L' k.val d = left L k.val d + ∑ j : Fin n, g (b + j.val) k.val d := by
  rw [h]
  by_cases hk : k.val < m
  · rw [if_pos ⟨Nat.zero_le _, by omega⟩]
  · rw [if_neg (by omega), beyond g hid (by omega) (by omega)]

/-- Two such tiles, cut at row 1024. -/
theorem two {L'' L' L : List (View.Piece (Elt Ideal) (Arr 2176 w) .f32)} {b n m : ℕ} (h : Adds g L' L b n 0 1024) (h' : Adds g L'' L' b n 1024 m)
    (hm : b + n = 1024 + m) (hz : m % 64 = 0) (k : Fin 2176) (d : Fin w) :
    left L'' k.val d = left L k.val d + ∑ j : Fin n, g (b + j.val) k.val d := by
  rw [h', h]
  by_cases hk : k.val < 1024
  · rw [if_pos ⟨Nat.zero_le _, by omega⟩, if_neg (by omega), add_zero]
  · by_cases hk' : k.val < 1024 + m
    · rw [if_neg (by omega), if_pos ⟨by omega, hk'⟩, add_zero]
    · rw [if_neg (by omega), if_neg (by omega), beyond g hid (by omega) (by omega), add_zero]

omit hid in
/-- Three tiles cover every row. -/
theorem three {L3 L2 L1 L : List (View.Piece (Elt Ideal) (Arr 2176 w) .f32)} {b n : ℕ} (h1 : Adds g L1 L b n 0 1024)
    (h2 : Adds g L2 L1 b n 1024 1024) (h3 : Adds g L3 L2 b n 2048 128) (k : Fin 2176) (d : Fin w) :
    left L3 k.val d = left L k.val d + ∑ j : Fin n, g (b + j.val) k.val d := by
  rw [h3, h2, h1]
  have := k.isLt
  by_cases hk : k.val < 1024
  · rw [if_pos ⟨Nat.zero_le _, by omega⟩, if_neg (by omega), if_neg (by omega), add_zero, add_zero]
  · by_cases hk' : k.val < 2048
    · rw [if_neg (by omega), if_pos ⟨by omega, by omega⟩, if_neg (by omega), add_zero, add_zero]
    · rw [if_neg (by omega), if_neg (by omega), if_pos ⟨by omega, by omega⟩, add_zero, add_zero]

omit hid in
theorem sum_more (f : ℕ → EReal) (b n : ℕ) : ∑ q ∈ Finset.range (b + n), f q = ∑ q ∈ Finset.range b, f q + ∑ r : Fin n, f (b + r.val) := by
  rw [Finset.sum_range_add, Fin.sum_univ_eq_sum_range (fun r => f (b + r))]

omit hid in
theorem sum_first (f : ℕ → EReal) (m : ℕ) : ∑ q ∈ Finset.range m, f q = ∑ r : Fin m, f r.val := by
  rw [Fin.sum_univ_eq_sum_range]

/-- The fifteen steps, over the list the kernel writes piece by piece. -/
structure Steps (L : ℕ → List (View.Piece (Elt Ideal) (Arr 2176 w) .f32)) : Prop where
  start : ∀ (k : Fin 2176) (d : Fin w), left (L 0) k.val d = 0
  s1 : Adds g (L 1) (L 0) 0 256 0 256
  s2 : Adds g (L 2) (L 1) 256 256 0 512
  s3 : Adds g (L 3) (L 2) 512 256 0 768
  s4 : Adds g (L 4) (L 3) 768 256 0 1024
  s5 : Adds g (L 5) (L 4) 1024 256 0 1024
  s6 : Adds g (L 6) (L 5) 1024 256 1024 256
  s7 : Adds g (L 7) (L 6) 1280 256 0 1024
  s8 : Adds g (L 8) (L 7) 1280 256 1024 512
  s9 : Adds g (L 9) (L 8) 1536 256 0 1024
  s10 : Adds g (L 10) (L 9) 1536 256 1024 768
  s11 : Adds g (L 11) (L 10) 1792 256 0 1024
  s12 : Adds g (L 12) (L 11) 1792 256 1024 1024
  s13 : Adds g (L 13) (L 12) 2048 128 0 1024
  s14 : Adds g (L 14) (L 13) 2048 128 1024 1024
  s15 : Adds g (L 15) (L 14) 2048 128 2048 128

theorem Steps.all {L : ℕ → List (View.Piece (Elt Ideal) (Arr 2176 w) .f32)} (s : Steps g L) (k : Fin 2176) (d : Fin w) :
    left (L 15) k.val d = ∑ q ∈ Finset.range 2176, g q k.val d := by
  have t := sum_more (fun q => g q k.val d)
  rw [three g s.s13 s.s14 s.s15, two g hid s.s11 s.s12 (by decide) (by decide), two g hid s.s9 s.s10 (by decide) (by decide),
    two g hid s.s7 s.s8 (by decide) (by decide), two g hid s.s5 s.s6 (by decide) (by decide), one g hid s.s4 (by decide) (by decide),
    one g hid s.s3 (by decide) (by decide), one g hid s.s2 (by decide) (by decide), one g hid s.s1 (by decide) (by decide), s.start]
  exact ((((((((((t 2048 128).trans (congrArg (· + _) (t 1792 256))).trans (congrArg (· + _ + _) (t 1536 256))).trans
    (congrArg (· + _ + _ + _) (t 1280 256))).trans (congrArg (· + _ + _ + _ + _) (t 1024 256))).trans
    (congrArg (· + _ + _ + _ + _ + _) (t 768 256))).trans (congrArg (· + _ + _ + _ + _ + _ + _) (t 512 256))).trans
    (congrArg (· + _ + _ + _ + _ + _ + _ + _) (t 256 256))).trans (congrArg (· + _ + _ + _ + _ + _ + _ + _ + _) (t 0 256))).trans
    (by rw [Finset.sum_range_zero])).symm

omit hid in
/-- A row of one tile of keys. -/
theorem reach (f : ℕ → EReal) {q m : ℕ} (hf : ∀ k, ¬ Vis k q → f k = 0) (hq : q < m) (hz : m % 64 = 0) (hm : m ≤ 2176) :
    ∑ k ∈ Finset.range 2176, f k = ∑ r : Fin m, f r.val := by
  obtain ⟨n, hn⟩ := Nat.exists_eq_add_of_le hm
  have : ∑ r : Fin n, f (m + r.val) = 0 := Finset.sum_eq_zero fun r _ => hf _ fun h => by have := h.2; omega
  rw [hn, sum_more, this, add_zero, sum_first]

omit hid in
/-- Of two tiles, -/
theorem reach_two (f : ℕ → EReal) {q m : ℕ} (hf : ∀ k, ¬ Vis k q → f k = 0) (hq : q < 1024 + m) (hz : m % 64 = 0) (hm : 1024 + m ≤ 2176) :
    ∑ k ∈ Finset.range 2176, f k = ∑ r : Fin 1024, f r.val + ∑ r : Fin m, f (1024 + r.val) := by
  obtain ⟨n, hn⟩ := Nat.exists_eq_add_of_le hm
  have : ∑ r : Fin n, f (1024 + m + r.val) = 0 := Finset.sum_eq_zero fun r _ => hf _ fun h => by have := h.2; omega
  rw [hn, sum_more, this, add_zero, sum_more, sum_first]

omit hid in
/-- of three. -/
theorem reach_three (f : ℕ → EReal) :
    ∑ k ∈ Finset.range 2176, f k = ∑ r : Fin 1024, f r.val + ∑ r : Fin 1024, f (1024 + r.val) + ∑ r : Fin 128, f (2048 + r.val) := by
  rw [show 2176 = 2048 + 128 from rfl, sum_more, show 2048 = 1024 + 1024 from rfl, sum_more, sum_first]

end Tile

end
-- ==== Proof.Block.lean ====
/- One grid point of the gradient kernel: what it leaves in the gradients of the keys and values, and of the queries, as sums over
   the rows of its blocks. -/
module

public import proofs.«01_k».proof.Proof.Gen.KernelIdeal.Frame
public import proofs.«01_k».proof.Proof.Gather
public import Idealize.ShloMosaic.Lib.Pointwise
public import Idealize.ShloMosaic.Lib.UnfoldOut
public import Idealize.ShloMosaic.Lib.Tactic.RunNames
public import Idealize.ShloMosaic.Lib.IdealHost

@[expose] public section
set_option maxRecDepth 16384
noncomputable section
namespace Block
open Cert.KernelIdeal Cert.KernelIdeal.Gen Idealize.ShloMosaic Idealize.ShloMosaic.TcCoe Idealize.SL.Sem Rows Tile

variable (c : Dev nD) (arg2 : Memref sig .tc .vmem S2176x256 .bf16) (harg2 : arg2.IsWhole) (arg3 : Memref sig .tc .vmem S2176x256 .bf16) (harg3 : arg3.IsWhole) (arg4 : Memref sig .tc .vmem S2176x128 .bf16) (harg4 : arg4.IsWhole) (arg5 : Memref sig .tc .vmem S2176x128 .f32) (harg5 : arg5.IsWhole) (arg6 : Memref sig .tc .vmem S2176x128 .f32) (harg6 : arg6.IsWhole) (arg7 : Memref sig .tc .vmem S2176x128 .f32) (harg7 : arg7.IsWhole) (arg11 : Memref sig .tc .vmem S2176x256 .f32) (arg12 : Memref sig .tc .vmem S2176x128 .f32)
variable (x0 x1 : (Arr 2176 256).Idx → EReal) (x2 x3 x4 x5 : (Arr 2176 128).Idx → EReal)

/-- The score of key row `k` and query row `q`, minus infinity where the key is hidden. -/
def score (k q : ℕ) : EReal := if Vis k q then ∑ d, row x1 k d * row x0 q d else ⊥

/-- The weight of key row `k` for query row `q`, from the saved logarithm `x4`. -/
def prob (k q : ℕ) : EReal := Ideal.exp2 (score x0 x1 k q - row x4 q 0)

/-- The gradient of their score. -/
def dscore (k q : ℕ) : EReal :=
  prob x0 x1 x4 k q * ((∑ d, row x2 k d * (row x5 q d * ((Real.log 2 : ℝ) : EReal))) - ∑ d, row x5 q d * ((Real.log 2 : ℝ) : EReal) * row x3 q d)

/-- What query row `q` adds to the gradient of value row `k`, -/
def toV (q k : ℕ) (d : Fin 128) : EReal := prob x0 x1 x4 k q * row x5 q d
/-- of key row `k`. -/
def toK (q k : ℕ) (d : Fin 256) : EReal := dscore x0 x1 x2 x3 x4 x5 k q * row x0 q d

/-- What the kernel has written into its buffer of value gradients after each of its fifteen steps, -/
def valuesL : ℕ → List (View.Piece (Elt Ideal) (Arr 2176 128) .f32)
  | 0 => kernelRun0_A.sl.HS1_1 (F := Ideal)
  | 1 => kernelRun0_A.sl.HS1_2 (F := Ideal) c arg2 harg2 arg3 harg3 arg6 harg6 arg7 harg7 arg12 x0 x1 x4 x5
  | 2 => kernelRun0_A.sl.HS1_3 (F := Ideal) c arg2 harg2 arg3 harg3 arg6 harg6 arg7 harg7 arg12 x0 x1 x4 x5
  | 3 => kernelRun0_A.sl.HS1_4 (F := Ideal) c arg2 harg2 arg3 harg3 arg6 harg6 arg7 harg7 arg12 x0 x1 x4 x5
  | 4 => kernelRun0_A.sl.HS1_5 (F := Ideal) c arg2 harg2 arg3 harg3 arg6 harg6 arg7 harg7 arg12 x0 x1 x4 x5
  | 5 => kernelRun0_A.sl.HS1_6 (F := Ideal) c arg2 harg2 arg3 harg3 arg6 harg6 arg7 harg7 arg12 x0 x1 x4 x5
  | 6 => kernelRun0_A.sl.HS1_7 (F := Ideal) c arg2 harg2 arg3 harg3 arg6 harg6 arg7 harg7 arg12 x0 x1 x4 x5
  | 7 => kernelRun0_A.sl.HS1_8 (F := Ideal) c arg2 harg2 arg3 harg3 arg6 harg6 arg7 harg7 arg12 x0 x1 x4 x5
  | 8 => kernelRun0_A.sl.HS1_9 (F := Ideal) c arg2 harg2 arg3 harg3 arg6 harg6 arg7 harg7 arg12 x0 x1 x4 x5
  | 9 => kernelRun0_A.sl.HS1_10 (F := Ideal) c arg2 harg2 arg3 harg3 arg6 harg6 arg7 harg7 arg12 x0 x1 x4 x5
  | 10 => kernelRun0_A.sl.HS1_11 (F := Ideal) c arg2 harg2 arg3 harg3 arg6 harg6 arg7 harg7 arg12 x0 x1 x4 x5
  | 11 => kernelRun0_A.sl.HS1_12 (F := Ideal) c arg2 harg2 arg3 harg3 arg6 harg6 arg7 harg7 arg12 x0 x1 x4 x5
  | 12 => kernelRun0_A.sl.HS1_13 (F := Ideal) c arg2 harg2 arg3 harg3 arg6 harg6 arg7 harg7 arg12 x0 x1 x4 x5
  | 13 => kernelRun0_A.sl.HS1_14 (F := Ideal) c arg2 harg2 arg3 harg3 arg6 harg6 arg7 harg7 arg12 x0 x1 x4 x5
  | 14 => kernelRun0_A.sl.HS1_15 (F := Ideal) c arg2 harg2 arg3 harg3 arg6 harg6 arg7 harg7 arg12 x0 x1 x4 x5
  | _ => kernelRun0_A.sl.HS1_16 (F := Ideal) c arg2 harg2 arg3 harg3 arg6 harg6 arg7 harg7 arg12 x0 x1 x4 x5

/-- into its buffer of key gradients. -/
def keysL : ℕ → List (View.Piece (Elt Ideal) (Arr 2176 256) .f32)
  | 0 => kernelRun0_A.sl.HS0_1 (F := Ideal)
  | 1 => kernelRun0_A.sl.HS0_2 (F := Ideal) c arg2 harg2 arg3 harg3 arg4 harg4 arg5 harg5 arg6 harg6 arg7 harg7 arg11 x0 x1 x2 x3 x4 x5
  | 2 => kernelRun0_A.sl.HS0_3 (F := Ideal) c arg2 harg2 arg3 harg3 arg4 harg4 arg5 harg5 arg6 harg6 arg7 harg7 arg11 x0 x1 x2 x3 x4 x5
  | 3 => kernelRun0_A.sl.HS0_4 (F := Ideal) c arg2 harg2 arg3 harg3 arg4 harg4 arg5 harg5 arg6 harg6 arg7 harg7 arg11 x0 x1 x2 x3 x4 x5
  | 4 => kernelRun0_A.sl.HS0_5 (F := Ideal) c arg2 harg2 arg3 harg3 arg4 harg4 arg5 harg5 arg6 harg6 arg7 harg7 arg11 x0 x1 x2 x3 x4 x5
  | 5 => kernelRun0_A.sl.HS0_6 (F := Ideal) c arg2 harg2 arg3 harg3 arg4 harg4 arg5 harg5 arg6 harg6 arg7 harg7 arg11 x0 x1 x2 x3 x4 x5
  | 6 => kernelRun0_A.sl.HS0_7 (F := Ideal) c arg2 harg2 arg3 harg3 arg4 harg4 arg5 harg5 arg6 harg6 arg7 harg7 arg11 x0 x1 x2 x3 x4 x5
  | 7 => kernelRun0_A.sl.HS0_8 (F := Ideal) c arg2 harg2 arg3 harg3 arg4 harg4 arg5 harg5 arg6 harg6 arg7 harg7 arg11 x0 x1 x2 x3 x4 x5
  | 8 => kernelRun0_A.sl.HS0_9 (F := Ideal) c arg2 harg2 arg3 harg3 arg4 harg4 arg5 harg5 arg6 harg6 arg7 harg7 arg11 x0 x1 x2 x3 x4 x5
  | 9 => kernelRun0_A.sl.HS0_10 (F := Ideal) c arg2 harg2 arg3 harg3 arg4 harg4 arg5 harg5 arg6 harg6 arg7 harg7 arg11 x0 x1 x2 x3 x4 x5
  | 10 => kernelRun0_A.sl.HS0_11 (F := Ideal) c arg2 harg2 arg3 harg3 arg4 harg4 arg5 harg5 arg6 harg6 arg7 harg7 arg11 x0 x1 x2 x3 x4 x5
  | 11 => kernelRun0_A.sl.HS0_12 (F := Ideal) c arg2 harg2 arg3 harg3 arg4 harg4 arg5 harg5 arg6 harg6 arg7 harg7 arg11 x0 x1 x2 x3 x4 x5
  | 12 => kernelRun0_A.sl.HS0_13 (F := Ideal) c arg2 harg2 arg3 harg3 arg4 harg4 arg5 harg5 arg6 harg6 arg7 harg7 arg11 x0 x1 x2 x3 x4 x5
  | 13 => kernelRun0_A.sl.HS0_14 (F := Ideal) c arg2 harg2 arg3 harg3 arg4 harg4 arg5 harg5 arg6 harg6 arg7 harg7 arg11 x0 x1 x2 x3 x4 x5
  | 14 => kernelRun0_A.sl.HS0_15 (F := Ideal) c arg2 harg2 arg3 harg3 arg4 harg4 arg5 harg5 arg6 harg6 arg7 harg7 arg11 x0 x1 x2 x3 x4 x5
  | _ => kernelRun0_A.sl.HS0_16 (F := Ideal) c arg2 harg2 arg3 harg3 arg4 harg4 arg5 harg5 arg6 harg6 arg7 harg7 arg11 x0 x1 x2 x3 x4 x5

theorem mask_bot : Named.named (F := Ideal) κ "mask" (φ := .f32) 0xF149F2CA#32 = (⊥ : EReal) := rfl
theorem ln2_log : Named.named (F := Ideal) κ "ln2" (φ := .f32) 0x3F317218#32 = ((Real.log 2 : ℝ) : EReal) := rfl
theorem exp2_ideal (x : EReal) : (FloatOps.exp2 (F := Ideal) (φ := .f32) x : EReal) = Ideal.exp2 x := rfl

theorem vis_late (r : Fin 1024) (j : Fin 128) : Vis (1024 + r.val) (2048 + j.val) := by
  constructor <;> omega

theorem values_steps : Steps (toV x0 x1 x4 x5) (valuesL c arg2 harg2 arg3 harg3 arg6 harg6 arg7 harg7 arg12 x0 x1 x4 x5) := by
  constructor
  case start =>
    intro k d
    refine (left_whole _ _ _ k d).trans ?_
    unfold_payloads
    exact Ideal.ofBits_zero_f32
  all_goals
    refine adds_of _ _ _ _ (fun r d => ?_)
    sl_unfold_run_values
    unfold_payloads
    pointwise
    simp (disch := decide) only [load_row, load_row_half, cov_row, select_full, Nat.zero_add, mask_bot, ln2_log, exp2_ideal]
    first
    | rfl
    | simp only [toV, prob, score, vis_late, if_true, Nat.add_zero]

theorem keys_steps : Steps (toK x0 x1 x2 x3 x4 x5) (keysL c arg2 harg2 arg3 harg3 arg4 harg4 arg5 harg5 arg6 harg6 arg7 harg7 arg11 x0 x1 x2 x3 x4 x5) := by
  constructor
  case start =>
    intro k d
    refine (left_whole _ _ _ k d).trans ?_
    unfold_payloads
    exact Ideal.ofBits_zero_f32
  all_goals
    refine adds_of _ _ _ _ (fun r d => ?_)
    sl_unfold_run_values
    unfold_payloads
    pointwise
    simp (disch := decide) only [load_row, load_row_half, cov_row, select_full, Nat.zero_add, mask_bot, ln2_log, exp2_ideal]
    first
    | rfl
    | simp only [toK, dscore, prob, score, vis_late, if_true, Nat.add_zero]

theorem prob_hidden {k q : ℕ} (h : ¬ Vis k q) : prob x0 x1 x4 k q = 0 := by
  rw [prob, score, if_neg h, EReal.bot_sub]
  rfl

theorem dscore_hidden {k q : ℕ} (h : ¬ Vis k q) : dscore x0 x1 x2 x3 x4 x5 k q = 0 := by
  rw [dscore, prob_hidden _ _ _ h, zero_mul]

variable (i : grid0.Coords) (arg8 : Memref sig .tc .vmem S2176x256 .bf16) (harg8 : arg8.IsWhole) (arg9 : Memref sig .tc .vmem S2176x256 .bf16) (harg9 : arg9.IsWhole) (arg10 : Memref sig .tc .vmem S2176x128 .bf16) (harg10 : arg10.IsWhole) (harg11 : arg11.IsWhole) (harg12 : arg12.IsWhole)

/-- What the gradient of a query row sums over the key rows. -/
def toQ (q : ℕ) (d : Fin 256) (k : ℕ) : EReal := dscore x0 x1 x2 x3 x4 x5 k q * row x1 k d

theorem toQ_hidden {q : ℕ} (d : Fin 256) (k : ℕ) (h : ¬ Vis k q) : toQ x0 x1 x2 x3 x4 x5 q d k = 0 := by
  rw [toQ, dscore_hidden _ _ _ _ _ _ h, zero_mul]

/-- The gradient of value row `k`: the sum over every query row; -/
def gradV (k : ℕ) (d : Fin 128) : EReal := ∑ q ∈ Finset.range 2176, toV x0 x1 x4 x5 q k d
/-- of key row `k`; -/
def gradK (k : ℕ) (d : Fin 256) : EReal := ∑ q ∈ Finset.range 2176, toK x0 x1 x2 x3 x4 x5 q k d
/-- of query row `q`: the sum over every key row. -/
def gradQ (q : ℕ) (d : Fin 256) : EReal := ∑ k ∈ Finset.range 2176, toQ x0 x1 x2 x3 x4 x5 q d k

/-- The kernel leaves the gradient of the values, -/
theorem out_values (n : Fin 2176) (d : Fin 128) : out0_A_8 (F := Ideal) c i arg2 harg2 arg3 harg3 arg4 harg4 arg5 harg5 arg6 harg6 arg7 harg7 arg8 harg8 arg9 harg9 arg10 harg10 arg11 harg11 arg12 harg12 x0 x1 x2 x3 x4 x5 (ix2 n d) = gradV x0 x1 x4 x5 n.val d := by
  rw [out0_A_8, View.read_writes_junk_eq_canon]
  refine canon_of_tells (N := 2176) (w := 128) (e := .bf16) (gradV x0 x1 x4 x5) _ ?_ (cover0_A_8 (F := Ideal) c i arg2 harg2 arg3 harg3 arg4 harg4 arg5 harg5 arg6 harg6 arg7 harg7 arg8 harg8 arg9 harg9 arg10 harg10 arg11 harg11 arg12 harg12 x0 x1 x2 x3 x4 x5) n d
  refine List.forall_mem_singleton.2 (tells_of (N := 2176) (w := 128) (e := .bf16) (a := 0) (m := 2176) _ _ _ fun r d => ?_)
  rw [Nat.zero_add]
  refine Eq.trans ?_ ((values_steps c arg2 harg2 arg3 harg3 arg6 harg6 arg7 harg7 arg12 x0 x1 x4 x5).all _ (fun q k d h => by rw [toV, prob_hidden _ _ _ h, zero_mul]) r d)
  sl_unfold_run_values
  unfold_payloads
  pointwise
  simp only [cov_row, Nat.zero_add]
  rfl

/-- of the keys, -/
theorem out_keys (n : Fin 2176) (d : Fin 256) : out0_A_7 (F := Ideal) c i arg2 harg2 arg3 harg3 arg4 harg4 arg5 harg5 arg6 harg6 arg7 harg7 arg8 harg8 arg9 harg9 arg10 harg10 arg11 harg11 arg12 harg12 x0 x1 x2 x3 x4 x5 (ix2 n d) = gradK x0 x1 x2 x3 x4 x5 n.val d := by
  rw [out0_A_7, View.read_writes_junk_eq_canon]
  refine canon_of_tells (N := 2176) (w := 256) (e := .bf16) (gradK x0 x1 x2 x3 x4 x5) _ ?_ (cover0_A_7 (F := Ideal) c i arg2 harg2 arg3 harg3 arg4 harg4 arg5 harg5 arg6 harg6 arg7 harg7 arg8 harg8 arg9 harg9 arg10 harg10 arg11 harg11 arg12 harg12 x0 x1 x2 x3 x4 x5) n d
  refine List.forall_mem_singleton.2 (tells_of (N := 2176) (w := 256) (e := .bf16) (a := 0) (m := 2176) _ _ _ fun r d => ?_)
  rw [Nat.zero_add]
  refine Eq.trans ?_ ((keys_steps c arg2 harg2 arg3 harg3 arg4 harg4 arg5 harg5 arg6 harg6 arg7 harg7 arg11 x0 x1 x2 x3 x4 x5).all _ (fun q k d h => by rw [toK, dscore_hidden _ _ _ _ _ _ h, zero_mul]) r d)
  sl_unfold_run_values
  unfold_payloads
  pointwise
  simp only [cov_row, Nat.zero_add]
  rfl

/-- of the queries. -/
theorem out_queries (n : Fin 2176) (d : Fin 256) : out0_A_6 (F := Ideal) c i arg2 harg2 arg3 harg3 arg4 harg4 arg5 harg5 arg6 harg6 arg7 harg7 arg8 harg8 arg9 harg9 arg10 harg10 arg11 harg11 arg12 harg12 x0 x1 x2 x3 x4 x5 (ix2 n d) = gradQ x0 x1 x2 x3 x4 x5 n.val d := by
  rw [out0_A_6, View.read_writes_junk_eq_canon]
  refine canon_of_tells (N := 2176) (w := 256) (e := .bf16) (gradQ x0 x1 x2 x3 x4 x5) _ ?_ (cover0_A_6 (F := Ideal) c i arg2 harg2 arg3 harg3 arg4 harg4 arg5 harg5 arg6 harg6 arg7 harg7 arg8 harg8 arg9 harg9 arg10 harg10 arg11 harg11 arg12 harg12 x0 x1 x2 x3 x4 x5) n d
  refine List.forall_mem_cons.2 ⟨tells_of (N := 2176) (w := 256) (e := .bf16) (a := 2048) (m := 128) _ _ _ fun r d => ?_,
    List.forall_mem_cons.2 ⟨tells_of (N := 2176) (w := 256) (e := .bf16) (a := 1792) (m := 256) _ _ _ fun r d => ?_,
    List.forall_mem_cons.2 ⟨tells_of (N := 2176) (w := 256) (e := .bf16) (a := 1536) (m := 256) _ _ _ fun r d => ?_,
    List.forall_mem_cons.2 ⟨tells_of (N := 2176) (w := 256) (e := .bf16) (a := 1280) (m := 256) _ _ _ fun r d => ?_,
    List.forall_mem_cons.2 ⟨tells_of (N := 2176) (w := 256) (e := .bf16) (a := 1024) (m := 256) _ _ _ fun r d => ?_,
    List.forall_mem_cons.2 ⟨tells_of (N := 2176) (w := 256) (e := .bf16) (a := 768) (m := 256) _ _ _ fun r d => ?_,
    List.forall_mem_cons.2 ⟨tells_of (N := 2176) (w := 256) (e := .bf16) (a := 512) (m := 256) _ _ _ fun r d => ?_,
    List.forall_mem_cons.2 ⟨tells_of (N := 2176) (w := 256) (e := .bf16) (a := 256) (m := 256) _ _ _ fun r d => ?_,
    List.forall_mem_singleton.2 (tells_of (N := 2176) (w := 256) (e := .bf16) (a := 0) (m := 256) _ _ _ fun r d => ?_)⟩⟩⟩⟩⟩⟩⟩⟩
  all_goals
    have hr := r.isLt
    sl_unfold_run_values
    unfold_payloads
    pointwise
    simp (disch := decide) only [load_row, load_row_half, cov_row, select_full, Nat.zero_add, mask_bot, ln2_log, exp2_ideal]
  · rw [gradQ, reach_three]
    simp only [toQ, dscore, prob, score, vis_late, if_true]
  · exact (reach_two _ (m := 1024) (toQ_hidden x0 x1 x2 x3 x4 x5 d) (by omega) (by decide) (by decide)).symm
  · exact (reach_two _ (m := 768) (toQ_hidden x0 x1 x2 x3 x4 x5 d) (by omega) (by decide) (by decide)).symm
  · exact (reach_two _ (m := 512) (toQ_hidden x0 x1 x2 x3 x4 x5 d) (by omega) (by decide) (by decide)).symm
  · exact (reach_two _ (m := 256) (toQ_hidden x0 x1 x2 x3 x4 x5 d) (by omega) (by decide) (by decide)).symm
  · exact (reach _ (m := 1024) (toQ_hidden x0 x1 x2 x3 x4 x5 d) (by omega) (by decide) (by decide)).symm
  · exact (reach _ (m := 768) (toQ_hidden x0 x1 x2 x3 x4 x5 d) (by omega) (by decide) (by decide)).symm
  · exact (reach _ (m := 512) (toQ_hidden x0 x1 x2 x3 x4 x5 d) (by omega) (by decide) (by decide)).symm
  · exact (reach _ (m := 256) (toQ_hidden x0 x1 x2 x3 x4 x5 d) (by omega) (by decide) (by decide)).symm

end Block
end
-- ==== Proof.Meets.lean ====
/- What one grid point of the gradient kernel leaves is the attention's gradients over the reals, when its blocks hold the head's
   queries, keys, values, output, logarithms and the output's gradient. -/
module

public import proofs.«01_k».proof.Proof.Block
public import proofs.«01_k».proof.Proof.Attn

@[expose] public section

set_option maxRecDepth 16384

noncomputable section

namespace Block

open Idealize.ShloMosaic Rows Tile

variable (x0 x1 : (Arr 2176 256).Idx → EReal) (x2 x3 x4 x5 : (Arr 2176 128).Idx → EReal)
variable (Q : Fin 2048 → Fin 192 → ℝ) (K : Fin 2176 → Fin 192 → ℝ) (V : Fin 2176 → Fin 128 → ℝ) (G : Fin 2048 → Fin 128 → ℝ) (M : Fin 2048 → ℝ)

/-- Lane `d` of the 192 that hold data. -/
abbrev lane (d : Fin 192) : Fin 256 := ⟨d.val, by omega⟩

/-- What the blocks hold. The 128 rows before the queries matter only in the output's gradient, which is zero there. -/
structure Holds : Prop where
  q : ∀ (n : Fin 2048) (d : Fin 192), row x0 (128 + n.val) (lane d) = (Q n d : EReal)
  qpad : ∀ (n : ℕ) (d : Fin 256), 192 ≤ d.val → row x0 n d = 0
  k : ∀ (n : Fin 2176) (d : Fin 192), row x1 n.val (lane d) = (K n d : EReal)
  kpad : ∀ (n : ℕ) (d : Fin 256), 192 ≤ d.val → row x1 n d = 0
  v : ∀ (n : Fin 2176) (d : Fin 128), row x2 n.val d = (V n d : EReal)
  o : ∀ (n : Fin 2048) (d : Fin 128), row x3 (128 + n.val) d = (Attn.out Q K V n d : EReal)
  lse : ∀ n : Fin 2048, row x4 (128 + n.val) 0 = (((M n + Real.log (Attn.total Q K (M n) n)) / Real.log 2 : ℝ) : EReal)
  g : ∀ (n : Fin 2048) (d : Fin 128), row x5 (128 + n.val) d = (G n d : EReal)
  glead : ∀ (n : ℕ) (d : Fin 128), n < 128 → row x5 n d = 0

/-- A sum over the lanes whose padding lanes are zero. -/
theorem sum_lanes (f : Fin 256 → EReal) (h : ∀ d, 192 ≤ d.val → f d = 0) : ∑ d, f d = ∑ d : Fin 192, f (lane d) := by
  have e := Fin.sum_univ_add (a := 192) (b := 64) f
  have z : ∑ d : Fin 64, f (Fin.natAdd 192 d) = 0 := Finset.sum_eq_zero fun d _ => h _ (by simp)
  rw [e, z, add_zero]
  rfl

theorem vis_sees (q : Fin 2048) (k : Fin 2176) : Vis k.val (128 + q.val) ↔ Attn.Sees q k := by
  rw [Vis, Attn.Sees, Nat.add_comm]

variable {x0 x1 x2 x3 x4 x5 Q K V G M} (H : Holds x0 x1 x2 x3 x4 x5 Q K V G M)
include H

theorem prob_real (q : Fin 2048) (k : Fin 2176) : prob x0 x1 x4 k.val (128 + q.val) = (Attn.weight Q K q k : EReal) := by
  by_cases h : Attn.Sees q k
  · have hs : ∑ d, row x1 k.val d * row x0 (128 + q.val) d = (Attn.score Q K q k : EReal) := by
      rw [sum_lanes _ fun d hd => by rw [H.kpad _ _ hd, zero_mul], Attn.score, Attn.coe_sum]
      exact Finset.sum_congr rfl fun d _ => by rw [H.k, H.q, ← EReal.coe_mul, mul_comm]
    rw [prob, score, if_pos ((vis_sees q k).2 h), hs, H.lse, ← EReal.coe_sub, Ideal.exp2_coe, Attn.weight_of_lse Q K (M q) q k h]
  · rw [prob_hidden _ _ _ (fun hv => h ((vis_sees q k).1 hv)), Attn.weight_hidden Q K q k h]
    rfl

theorem dscore_real (q : Fin 2048) (k : Fin 2176) :
    dscore x0 x1 x2 x3 x4 x5 k.val (128 + q.val) = (Attn.gradS Q K V G q k : EReal) := by
  rw [dscore, prob_real H, ← Attn.gradS_of_out, EReal.coe_mul, EReal.coe_sub, Attn.coe_sum, Attn.coe_sum]
  simp only [H.v, H.g, H.o, EReal.coe_mul]

/-- A query row before the first has no gradient. -/
theorem dscore_lead (n : ℕ) (hn : n < 128) (k : ℕ) : dscore x0 x1 x2 x3 x4 x5 k n = 0 := by
  rw [dscore, Finset.sum_eq_zero (fun d _ => by rw [H.glead _ _ hn, zero_mul, mul_zero]),
    Finset.sum_eq_zero (fun d _ => by rw [H.glead _ _ hn, zero_mul, zero_mul]), sub_zero, mul_zero]

omit H in
/-- A sum over all rows whose first 128 are zero. -/
theorem sum_rows (f : ℕ → EReal) (h : ∀ n, n < 128 → f n = 0) : ∑ n ∈ Finset.range 2176, f n = ∑ n : Fin 2048, f (128 + n.val) := by
  rw [show 2176 = 128 + 2048 from rfl, sum_more, Finset.sum_eq_zero (fun n hn => h n (Finset.mem_range.1 hn)), zero_add]

theorem gradV_real (k : Fin 2176) (d : Fin 128) : gradV x0 x1 x4 x5 k.val d = (Attn.gradV Q K G k d : EReal) := by
  rw [gradV, sum_rows _ (fun n hn => by rw [toV, H.glead _ _ hn, mul_zero]), Attn.gradV, Attn.coe_sum]
  exact Finset.sum_congr rfl fun q _ => by rw [toV, prob_real H, H.g, EReal.coe_mul]

theorem gradK_real (k : Fin 2176) (d : Fin 192) : gradK x0 x1 x2 x3 x4 x5 k.val (lane d) = (Attn.gradK Q K V G k d : EReal) := by
  rw [gradK, sum_rows _ (fun n hn => by rw [toK, dscore_lead H n hn, zero_mul]), Attn.gradK, Attn.coe_sum]
  exact Finset.sum_congr rfl fun q _ => by rw [toK, dscore_real H, H.q, EReal.coe_mul]

theorem gradK_pad (k : ℕ) (d : Fin 256) (hd : 192 ≤ d.val) : gradK x0 x1 x2 x3 x4 x5 k d = 0 :=
  Finset.sum_eq_zero fun q _ => by rw [toK, H.qpad _ _ hd, mul_zero]

theorem gradQ_real (q : Fin 2048) (d : Fin 192) :
    gradQ x0 x1 x2 x3 x4 x5 (128 + q.val) (lane d) = (Attn.gradQ Q K V G q d : EReal) := by
  rw [gradQ, sum_first, Attn.gradQ, Attn.coe_sum]
  exact Finset.sum_congr rfl fun k _ => by rw [toQ, dscore_real H, H.k, EReal.coe_mul]

theorem gradQ_pad (q : ℕ) (d : Fin 256) (hd : 192 ≤ d.val) : gradQ x0 x1 x2 x3 x4 x5 q d = 0 :=
  Finset.sum_eq_zero fun k _ => by rw [toQ, H.kpad _ _ hd, mul_zero]

theorem gradQ_lead (q : ℕ) (hq : q < 128) (d : Fin 256) : gradQ x0 x1 x2 x3 x4 x5 q d = 0 :=
  Finset.sum_eq_zero fun k _ => by rw [toQ, dscore_lead H q hq, zero_mul]

end Block

end
-- ==== Proof.Place.lean ====
/- Where a head's block lies in the arrays: its entries of the operands, and of the reference's results. -/
module

public import proofs.«01_k».proof.Proof.Host
public import proofs.«01_k».proof.Proof.Meets

@[expose] public section

set_option maxRecDepth 16384

noncomputable section

namespace Place

open Cert.KernelIdeal Cert.KernelIdeal.Gen Idealize.ShloMosaic Operand

variable {b : Fin 4} {h : Fin 8} {n : Fin 2176} {R : Fin 8704} (hR : R.val = b.val * 2176 + n.val)
include hR

theorem example_eq (p : R.val / 2176 < 4) : (⟨R.val / 2176, p⟩ : Fin 4) = b := Fin.ext (by show R.val / 2176 = _; omega)
theorem row_eq (p : R.val % 2176 < 2176) : (⟨R.val % 2176, p⟩ : Fin 2176) = n := Fin.ext (by show R.val % 2176 = _; omega)

section
variable {d : Fin 256} {C : Fin 2048} (hC : C.val = h.val * 256 + d.val)
include hC

omit hR in
theorem head_eq (p : C.val / 256 < 8) : (⟨C.val / 256, p⟩ : Fin 8) = h := Fin.ext (by show C.val / 256 = _; omega)
omit hR in
theorem lane_eq (hd : d.val < 192) (p : C.val % 256 < 192) : (⟨C.val % 256, p⟩ : Fin 192) = ⟨d.val, hd⟩ :=
  Fin.ext (by show C.val % 256 = d.val; omega)

theorem lanes_in (x : Rows192) (hd : d.val < 192) : lanes x (ix2 R C) = x (ix4 b n h ⟨d.val, hd⟩) := by
  rw [lanes_at, dif_pos (show C.val % 256 < 192 by omega), example_eq hR, row_eq hR, head_eq hC, lane_eq hC hd]

omit hR in
theorem lanes_pad (x : Rows192) (hd : 192 ≤ d.val) : lanes x (ix2 R C) = 0 := by
  rw [lanes_at, dif_neg (show ¬ C.val % 256 < 192 by omega)]

end

section
variable {d : Fin 128} {C : Fin 1024} (hC : C.val = h.val * 128 + d.val)
include hC

omit hR in
theorem head_eq' (p : C.val / 128 < 8) : (⟨C.val / 128, p⟩ : Fin 8) = h := Fin.ext (by show C.val / 128 = _; omega)
omit hR in
theorem lane_eq' (p : C.val % 128 < 128) : (⟨C.val % 128, p⟩ : Fin 128) = d := Fin.ext (by show C.val % 128 = _; omega)

theorem flat_in (x : Rows128) : flat x (ix2 R C) = x (ix4 b n h d) := by
  rw [flat_at, example_eq hR, row_eq hR, head_eq' hC, lane_eq' hC]

theorem behind_in (x : Rows2048) (q : Fin 2048) (hn : n.val = 128 + q.val) : behind x (ix2 R C) = x (ix4 b q h d) := by
  have e (p : R.val % 2176 - 128 < 2048) : (⟨R.val % 2176 - 128, p⟩ : Fin 2048) = q :=
    Fin.ext (by show R.val % 2176 - 128 = _; omega)
  rw [behind_at, dif_pos (show 128 ≤ R.val % 2176 by omega), example_eq hR, e, head_eq' hC, lane_eq' hC]

theorem behind_lead (x : Rows2048) (hn : n.val < 128) : behind x (ix2 R C) = 0 := by
  rw [behind_at, dif_neg (show ¬ 128 ≤ R.val % 2176 by omega)]

end

open Cert.ReferenceIdeal.Read

variable {x0 x1 : Rows192} {x2 : Rows128} {x3 : Rows2048}
variable {Q : Fin 2048 → Fin 192 → ℝ} {K : Fin 2176 → Fin 192 → ℝ} {V : Fin 2176 → Fin 128 → ℝ} {G : Fin 2048 → Fin 128 → ℝ}
variable (H : Ref.Head x0 x1 x2 x3 b h Q K V G) {M : Fin 2048 → ℝ}
variable (hM : ∀ q, val_main_v26 (F := Ideal) x0 x1 (ix3 b h q) = (M q : EReal))

section
variable {d : Fin 256} {C : Fin 2048} (hC : C.val = h.val * 256 + d.val)
include hC

include H hM in
theorem dq_in (hd : d.val < 192) (q : Fin 2048) (hn : n.val = 128 + q.val) :
    val_main_v84 (F := Ideal) x0 x1 x2 x3 (ix2 R C) = (Attn.gradQ Q K V G q ⟨d.val, hd⟩ : EReal) := by
  have e (p : R.val % 2176 - 128 < 2048) : (⟨R.val % 2176 - 128, p⟩ : Fin 2048) = q :=
    Fin.ext (by show R.val % 2176 - 128 = _; omega)
  rw [Ref.dq_at, dif_pos (show C.val % 256 < 192 by omega), dif_pos (show 128 ≤ R.val % 2176 by omega), ← Ref.dq_real H hM]
  simp only [example_eq hR, e, head_eq hC, lane_eq hC hd]

theorem dq_lead (hn : n.val < 128) : val_main_v84 (F := Ideal) x0 x1 x2 x3 (ix2 R C) = 0 := by
  rw [Ref.dq_at]
  split
  · rw [dif_neg (show ¬ 128 ≤ R.val % 2176 by omega), zero_mul]
  · rfl

omit hR in
theorem dq_pad (hd : 192 ≤ d.val) : val_main_v84 (F := Ideal) x0 x1 x2 x3 (ix2 R C) = 0 := by
  rw [Ref.dq_at, dif_neg (show ¬ C.val % 256 < 192 by omega)]

include H hM in
theorem dk_in (hd : d.val < 192) : val_main_v87 (F := Ideal) x0 x1 x2 x3 (ix2 R C) = (Attn.gradK Q K V G n ⟨d.val, hd⟩ : EReal) := by
  rw [Ref.dk_at, dif_pos (show C.val % 256 < 192 by omega), ← Ref.dk_real H hM]
  simp only [example_eq hR, row_eq hR, head_eq hC, lane_eq hC hd]

omit hR in
theorem dk_pad (hd : 192 ≤ d.val) : val_main_v87 (F := Ideal) x0 x1 x2 x3 (ix2 R C) = 0 := by
  rw [Ref.dk_at, dif_neg (show ¬ C.val % 256 < 192 by omega)]

end

include H hM in
theorem dv_in {d : Fin 128} {C : Fin 1024} (hC : C.val = h.val * 128 + d.val) :
    val_main_v89 (F := Ideal) x0 x1 x3 (ix2 R C) = (Attn.gradV Q K G n d : EReal) := by
  rw [Ref.dv_at, ← Ref.dv_real H hM]
  simp only [example_eq hR, row_eq hR, head_eq' hC, lane_eq' hC]

end Place

end
-- ==== Proof.Final.lean ====
/- The kernel's three results are the reference's, when the inputs are finite. -/
module

public import proofs.«01_k».proof.Proof.Place
public import proofs.«01_k».proof.Proof.Gen.KernelIdeal.Value
public import Idealize.ShloMosaic.Lib.Pipeline.ValueKit

@[expose] public section

set_option maxRecDepth 16384

noncomputable section

namespace Final

open Cert.KernelIdeal Cert.KernelIdeal.Gen Idealize.ShloMosaic Idealize.ShloMosaic.TcCoe Idealize.SL.Sem Operand
open Cert.ReferenceIdeal.Read (val_main_v26 val_main_v84 val_main_v87 val_main_v89)

variable (m : (ℓ : Loc nD τ sig) → Buf (Elt Ideal) ℓ) (c : Dev nD) (t : Fin cfg0.N)

/-- The four inputs, by their shapes. -/
abbrev a0 : Rows192 := m ((c : Thread nD τ).loc main_arg0)
abbrev a1 : Rows192 := m ((c : Thread nD τ).loc main_arg1)
abbrev a2 : Rows128 := m ((c : Thread nD τ).loc main_arg2)
abbrev a3 : Rows2048 := m ((c : Thread nD τ).loc main_arg3)

/-- The example and the head of a grid point. -/
def exOf : Fin 4 := grid0.coords t 0
def headOf : Fin 8 := grid0.coords t 1

theorem idx256 : ∀ t : Fin cfg0.N, win0_0.index t = ![(exOf t).val, (headOf t).val] ∧ win0_1.index t = ![(exOf t).val, (headOf t).val]
    ∧ win0_6.index t = ![(exOf t).val, (headOf t).val] ∧ win0_7.index t = ![(exOf t).val, (headOf t).val] :=
  (by decide +kernel : ∀ t : Fin grid0.N, _)

theorem idx128 : ∀ t : Fin cfg0.N, win0_2.index t = ![(exOf t).val, (headOf t).val] ∧ win0_3.index t = ![(exOf t).val, (headOf t).val]
    ∧ win0_4.index t = ![(exOf t).val, (headOf t).val] ∧ win0_5.index t = ![(exOf t).val, (headOf t).val]
    ∧ win0_8.index t = ![(exOf t).val, (headOf t).val] :=
  (by decide +kernel : ∀ t : Fin grid0.N, _)

/-- Row `n` of the example and lane `d` of the head, in the arrays. -/
def rowAt (n : Fin 2176) : Fin 8704 := ⟨(exOf t).val * 2176 + n.val, by omega⟩
def laneAt (d : Fin 256) : Fin 2048 := ⟨(headOf t).val * 256 + d.val, by omega⟩
def laneAt' (d : Fin 128) : Fin 1024 := ⟨(headOf t).val * 128 + d.val, by omega⟩

theorem emb0 (n : Fin 2176) (d : Fin 256) : (win0_0.blk t).view.emb (ix2 n d) = ix2 (rowAt t n) (laneAt t d) := by
  unfold rowAt laneAt
  blk_ext [idx256 t]

theorem emb1 (n : Fin 2176) (d : Fin 256) : (win0_1.blk t).view.emb (ix2 n d) = ix2 (rowAt t n) (laneAt t d) := by
  unfold rowAt laneAt
  blk_ext [idx256 t]

theorem emb2 (n : Fin 2176) (d : Fin 128) : (win0_2.blk t).view.emb (ix2 n d) = ix2 (rowAt t n) (laneAt' t d) := by
  unfold rowAt laneAt'
  blk_ext [idx128 t]

theorem emb3 (n : Fin 2176) (d : Fin 128) : (win0_3.blk t).view.emb (ix2 n d) = ix2 (rowAt t n) (laneAt' t d) := by
  unfold rowAt laneAt'
  blk_ext [idx128 t]

theorem emb4 (n : Fin 2176) (d : Fin 128) : (win0_4.blk t).view.emb (ix2 n d) = ix2 (rowAt t n) (laneAt' t d) := by
  unfold rowAt laneAt'
  blk_ext [idx128 t]

theorem emb5 (n : Fin 2176) (d : Fin 128) : (win0_5.blk t).view.emb (ix2 n d) = ix2 (rowAt t n) (laneAt' t d) := by
  unfold rowAt laneAt'
  blk_ext [idx128 t]

theorem emb6 (n : Fin 2176) (d : Fin 256) : (win0_6.blk t).view.emb (ix2 n d) = ix2 (rowAt t n) (laneAt t d) := by
  unfold rowAt laneAt
  blk_ext [idx256 t]

theorem emb7 (n : Fin 2176) (d : Fin 256) : (win0_7.blk t).view.emb (ix2 n d) = ix2 (rowAt t n) (laneAt t d) := by
  unfold rowAt laneAt
  blk_ext [idx256 t]

theorem emb8 (n : Fin 2176) (d : Fin 128) : (win0_8.blk t).view.emb (ix2 n d) = ix2 (rowAt t n) (laneAt' t d) := by
  unfold rowAt laneAt'
  blk_ext [idx128 t]

theorem q_at (n : Fin 2176) (d : Fin 256) : iblk m c 0 t (ix2 n d) = lanes (a0 m c) (ix2 (rowAt t n) (laneAt t d)) := by
  blk_simp [iblk]
  exact (congrFun (v46_eq m c) _).trans (congrArg _ (emb0 t n d))

theorem k_at (n : Fin 2176) (d : Fin 256) : iblk m c 1 t (ix2 n d) = lanes (a1 m c) (ix2 (rowAt t n) (laneAt t d)) := by
  blk_simp [iblk]
  exact (congrFun (v49_eq m c) _).trans (congrArg _ (emb1 t n d))

theorem v_at (n : Fin 2176) (d : Fin 128) : iblk m c 2 t (ix2 n d) = flat (a2 m c) (ix2 (rowAt t n) (laneAt' t d)) := by
  blk_simp [iblk]
  exact (congrFun (v51_eq m c) _).trans (congrArg _ (emb2 t n d))

theorem o_at (n : Fin 2176) (d : Fin 128) :
    iblk m c 3 t (ix2 n d) = behind (outs (a0 m c) (a1 m c) (a2 m c)) (ix2 (rowAt t n) (laneAt' t d)) := by
  blk_simp [iblk]
  exact (congrFun (v53_eq m c) _).trans (congrArg _ (emb3 t n d))

theorem lse_at (n : Fin 2176) (d : Fin 128) :
    iblk m c 4 t (ix2 n d) = behind (logs (a0 m c) (a1 m c)) (ix2 (rowAt t n) (laneAt' t d)) := by
  blk_simp [iblk]
  exact (congrFun (v55_eq m c) _).trans (congrArg _ (emb4 t n d))

theorem do_at (n : Fin 2176) (d : Fin 128) : iblk m c 5 t (ix2 n d) = behind (a3 m c) (ix2 (rowAt t n) (laneAt' t d)) := by
  blk_simp [iblk]
  exact (congrFun (v57_eq m c) _).trans (congrArg _ (emb5 t n d))

end Final

end
-- ==== Proof.Results.lean ====
/- The kernel's three results are the reference's, when every entry of the inputs is a real. -/
module

public import proofs.«01_k».proof.Proof.Final
public import proofs.«01_k».proof.Defs
public import proofs.«01_k».proof.Proof.Gen.ReferenceIdeal.Run
public import proofs.«01_k».proof.Proof.Gen.Pre_finite

@[expose] public section

set_option maxRecDepth 16384

noncomputable section

namespace Final

open Cert.KernelIdeal Cert.KernelIdeal.Gen Idealize.ShloMosaic Idealize.ShloMosaic.TcCoe Idealize.SL.Sem Operand
open Cert.ReferenceIdeal.Read (val_main_v26 val_main_v84 val_main_v87 val_main_v89)

/-- A value below plus infinity in size is a real. -/
theorem real_of_below (x : EReal) (h : BitVec.ofBool (decide (max x (-x) < Ideal.ofBits .f32 0x7F800000#32)) = 1#1) :
    x = (x.toReal : EReal) := by
  have ht : Ideal.ofBits .f32 0x7F800000#32 = ⊤ := by simp [Ideal.ofBits, Ideal.ieee]
  rw [ht] at h
  have hl : max x (-x) < ⊤ := by
    by_contra hn
    rw [decide_eq_false hn] at h
    exact absurd h (by decide)
  refine (EReal.coe_toReal (fun e => ?_) fun e => ?_).symm
  · rw [e] at hl; exact absurd hl (by simp)
  · rw [e] at hl; exact absurd hl (by simp)

variable (m : (ℓ : Loc nD τ sig) → Buf (Elt Ideal) ℓ) (c : Dev nD)

/-- Every entry of the inputs is a real. -/
structure Reals : Prop where
  q : ∀ i, a0 m c i = ((a0 m c i).toReal : EReal)
  k : ∀ i, a1 m c i = ((a1 m c i).toReal : EReal)
  v : ∀ i, a2 m c i = ((a2 m c i).toReal : EReal)
  g : ∀ i, a3 m c i = ((a3 m c i).toReal : EReal)

theorem reals_of_finite (h : Cert.Pre_KernelIdeal_finite m) : Reals m c :=
  ⟨fun i => real_of_below _ (congrFun (h c).1 i), fun i => real_of_below _ (congrFun (h c).2.1 i),
    fun i => real_of_below _ (congrFun (h c).2.2.1 i), fun i => real_of_below _ (congrFun (h c).2.2.2 i)⟩

variable (b : Fin 4) (h : Fin 8)

/-- A head's inputs, as reals. -/
def headQ (n : Fin 2048) (d : Fin 192) : ℝ := (a0 m c (ix4 b ⟨128 + n.val, by omega⟩ h d)).toReal
def headK (n : Fin 2176) (d : Fin 192) : ℝ := (a1 m c (ix4 b n h d)).toReal
def headV (n : Fin 2176) (d : Fin 128) : ℝ := (a2 m c (ix4 b n h d)).toReal
def headG (n : Fin 2048) (d : Fin 128) : ℝ := (a3 m c (ix4 b n h d)).toReal

variable {m c} (W : Reals m c)
include W

theorem head_real : Ref.Head (a0 m c) (a1 m c) (a2 m c) (a3 m c) b h (headQ m c b h) (headK m c b h) (headV m c b h) (headG m c b h) :=
  ⟨fun _ _ => W.q _, fun _ _ => W.k _, fun _ _ => W.v _, fun _ _ => W.g _⟩

theorem tops : ∃ M : Fin 2048 → ℝ, ∀ q, val_main_v26 (F := Ideal) (a0 m c) (a1 m c) (ix3 b h q) = (M q : EReal) :=
  Classical.skolem.1 fun q => Ref.top_real (head_real b h W) q

omit W in
theorem rowAt_val (t : Fin cfg0.N) (n : Fin 2176) : (rowAt t n).val = (exOf t).val * 2176 + n.val := rfl
omit W in
theorem laneAt_val (t : Fin cfg0.N) (d : Fin 256) : (laneAt t d).val = (headOf t).val * 256 + d.val := rfl
omit W in
theorem laneAt'_val (t : Fin cfg0.N) (d : Fin 128) : (laneAt' t d).val = (headOf t).val * 128 + d.val := rfl

omit W in
/-- A row within the block, or past it. -/
theorem row_cases {N w : ℕ} (x : (Rows.Arr N w).Idx → EReal) (n : ℕ) (d : Fin w) (y : EReal)
    (hx : ∀ r : Fin N, r.val = n → x (ix2 r d) = y) (hz : N ≤ n → y = 0) : Rows.row x n d = y := by
  unfold Rows.row
  split
  · next hn => exact hx ⟨n, hn⟩ rfl
  · next hn => exact (hz (Nat.le_of_not_lt hn)).symm

theorem holds (t : Fin cfg0.N) {M : Fin 2048 → ℝ}
    (hM : ∀ q, val_main_v26 (F := Ideal) (a0 m c) (a1 m c) (ix3 (exOf t) (headOf t) q) = (M q : EReal)) :
    Block.Holds (iblk m c 0 t) (iblk m c 1 t) (iblk m c 2 t) (iblk m c 3 t) (iblk m c 4 t) (iblk m c 5 t)
      (headQ m c (exOf t) (headOf t)) (headK m c (exOf t) (headOf t)) (headV m c (exOf t) (headOf t)) (headG m c (exOf t) (headOf t)) M where
  q n d := row_cases _ _ _ _ (fun r hr => by
    rw [q_at, Place.lanes_in (rowAt_val t r) (laneAt_val t _) _ d.isLt, W.q]
    have e : r = ⟨128 + n.val, by omega⟩ := Fin.ext hr
    rw [e]
    rfl) fun hn => absurd hn (by omega)
  qpad n d hd := row_cases _ _ _ _ (fun r _ => by rw [q_at, Place.lanes_pad (laneAt_val t _) _ hd]) fun _ => rfl
  k n d := row_cases _ _ _ _ (fun r hr => by
    rw [k_at, Place.lanes_in (rowAt_val t r) (laneAt_val t _) _ d.isLt, W.k]
    obtain rfl : r = n := Fin.ext hr
    rfl) fun hn => absurd hn (by omega)
  kpad n d hd := row_cases _ _ _ _ (fun r _ => by rw [k_at, Place.lanes_pad (laneAt_val t _) _ hd]) fun _ => rfl
  v n d := row_cases _ _ _ _ (fun r hr => by
    rw [v_at, Place.flat_in (rowAt_val t r) (laneAt'_val t _), W.v]
    obtain rfl : r = n := Fin.ext hr
    rfl) fun hn => absurd hn (by omega)
  o n d := row_cases _ _ _ _ (fun r hr => by
    rw [o_at, Place.behind_in (rowAt_val t r) (laneAt'_val t _) _ n hr, outs_real (head_real _ _ W) hM]) fun hn => absurd hn (by omega)
  lse n := row_cases _ _ _ _ (fun r hr => by
    rw [lse_at, Place.behind_in (rowAt_val t r) (laneAt'_val t _) _ n hr, logs_real (head_real _ _ W) hM]) fun hn => absurd hn (by omega)
  g n d := row_cases _ _ _ _ (fun r hr => by
    rw [do_at, Place.behind_in (rowAt_val t r) (laneAt'_val t _) _ n hr, W.g]
    rfl) fun hn => absurd hn (by omega)
  glead n d hn := row_cases _ _ _ _ (fun r hr => by
    rw [do_at, Place.behind_lead (rowAt_val t r) (laneAt'_val t _) _ (hr ▸ hn)]) fun _ => rfl

omit W in
variable (m c) in
theorem left_queries (t : Fin cfg0.N) (n : Fin 2176) (d : Fin 256) : (outsAt0 m c t).1 (ix2 n d)
    = Block.gradQ (iblk m c 0 t) (iblk m c 1 t) (iblk m c 2 t) (iblk m c 3 t) (iblk m c 4 t) (iblk m c 5 t) n.val d := by
  rw [outsAt0]
  dsimp only
  refine Eq.trans ?_ (Block.out_queries c (ms0_0 t) (hs0_0 t) (ms0_1 t) (hs0_1 t) (ms0_2 t) (hs0_2 t) (ms0_3 t) (hs0_3 t) (ms0_4 t) (hs0_4 t) (ms0_5 t) (hs0_5 t) scM0_0 scM0_1
    (iblk m c 0 t) (iblk m c 1 t) (iblk m c 2 t) (iblk m c 3 t) (iblk m c 4 t) (iblk m c 5 t)
    (grid0.coords t) (ms0_6 t) (hs0_6 t) (ms0_7 t) (hs0_7 t) (ms0_8 t) (hs0_8 t) (Memref.isWhole_whole _) (Memref.isWhole_whole _) n d)
  with_reducible (congr 1)

omit W in
variable (m c) in
theorem left_keys (t : Fin cfg0.N) (n : Fin 2176) (d : Fin 256) : (outsAt0 m c t).2.1 (ix2 n d)
    = Block.gradK (iblk m c 0 t) (iblk m c 1 t) (iblk m c 2 t) (iblk m c 3 t) (iblk m c 4 t) (iblk m c 5 t) n.val d := by
  rw [outsAt0]
  dsimp only
  refine Eq.trans ?_ (Block.out_keys c (ms0_0 t) (hs0_0 t) (ms0_1 t) (hs0_1 t) (ms0_2 t) (hs0_2 t) (ms0_3 t) (hs0_3 t) (ms0_4 t) (hs0_4 t) (ms0_5 t) (hs0_5 t) scM0_0 scM0_1
    (iblk m c 0 t) (iblk m c 1 t) (iblk m c 2 t) (iblk m c 3 t) (iblk m c 4 t) (iblk m c 5 t)
    (grid0.coords t) (ms0_6 t) (hs0_6 t) (ms0_7 t) (hs0_7 t) (ms0_8 t) (hs0_8 t) (Memref.isWhole_whole _) (Memref.isWhole_whole _) n d)
  with_reducible (congr 1)

omit W in
variable (m c) in
theorem left_values (t : Fin cfg0.N) (n : Fin 2176) (d : Fin 128) : (outsAt0 m c t).2.2 (ix2 n d)
    = Block.gradV (iblk m c 0 t) (iblk m c 1 t) (iblk m c 4 t) (iblk m c 5 t) n.val d := by
  rw [outsAt0]
  dsimp only
  refine Eq.trans ?_ (Block.out_values c (ms0_0 t) (hs0_0 t) (ms0_1 t) (hs0_1 t) (ms0_2 t) (hs0_2 t) (ms0_3 t) (hs0_3 t) (ms0_4 t) (hs0_4 t) (ms0_5 t) (hs0_5 t) scM0_0 scM0_1
    (iblk m c 0 t) (iblk m c 1 t) (iblk m c 2 t) (iblk m c 3 t) (iblk m c 4 t) (iblk m c 5 t)
    (grid0.coords t) (ms0_6 t) (hs0_6 t) (ms0_7 t) (hs0_7 t) (ms0_8 t) (hs0_8 t) (Memref.isWhole_whole _) (Memref.isWhole_whole _) n d)
  with_reducible (congr 1)

theorem queries_eq : (dats m 0 c).arrAt 6 cfg0.N = val_main_v84 (F := Ideal) (a0 m c) (a1 m c) (a2 m c) (a3 m c) := by
  refine (dats m 0 c).arrAt_eq_of_covers 6 _ (by decide +kernel) fun t _ y => ?_
  blk_simp
  rw [after0_6]
  obtain ⟨n, d, rfl⟩ : ∃ (n : Fin 2176) (d : Fin 256), y = ix2 n d := ⟨y 0, y 1, funext fun a => match a with | ⟨0, _⟩ => rfl | ⟨1, _⟩ => rfl⟩
  obtain ⟨M, hM⟩ := tops (exOf t) (headOf t) W
  have B := holds W t hM
  have H := head_real (exOf t) (headOf t) W
  rw [emb6]
  refine (left_queries m c t n d).trans ?_
  by_cases hd : d.val < 192
  · by_cases hn : n.val < 128
    · rw [Block.gradQ_lead B _ hn, Place.dq_lead (rowAt_val t n) (laneAt_val t d) hn]
    · have hq : n.val = 128 + (⟨n.val - 128, by omega⟩ : Fin 2048).val := by show n.val = 128 + (n.val - 128); omega
      rw [Place.dq_in (rowAt_val t n) H hM (laneAt_val t d) hd _ hq, ← Block.gradQ_real B, ← hq]
  · rw [Block.gradQ_pad B _ d (Nat.le_of_not_lt hd), Place.dq_pad (laneAt_val t d) (Nat.le_of_not_lt hd)]

theorem keys_eq : (dats m 0 c).arrAt 7 cfg0.N = val_main_v87 (F := Ideal) (a0 m c) (a1 m c) (a2 m c) (a3 m c) := by
  refine (dats m 0 c).arrAt_eq_of_covers 7 _ (by decide +kernel) fun t _ y => ?_
  blk_simp
  rw [after0_7]
  obtain ⟨n, d, rfl⟩ : ∃ (n : Fin 2176) (d : Fin 256), y = ix2 n d := ⟨y 0, y 1, funext fun a => match a with | ⟨0, _⟩ => rfl | ⟨1, _⟩ => rfl⟩
  obtain ⟨M, hM⟩ := tops (exOf t) (headOf t) W
  have B := holds W t hM
  have H := head_real (exOf t) (headOf t) W
  rw [emb7]
  refine (left_keys m c t n d).trans ?_
  by_cases hd : d.val < 192
  · rw [Place.dk_in (rowAt_val t n) H hM (laneAt_val t d) hd, ← Block.gradK_real B]
  · rw [Block.gradK_pad B _ d (Nat.le_of_not_lt hd), Place.dk_pad (laneAt_val t d) (Nat.le_of_not_lt hd)]

theorem values_eq : (dats m 0 c).arrAt 8 cfg0.N = val_main_v89 (F := Ideal) (a0 m c) (a1 m c) (a3 m c) := by
  refine (dats m 0 c).arrAt_eq_of_covers 8 _ (by decide +kernel) fun t _ y => ?_
  blk_simp
  rw [after0_8]
  obtain ⟨n, d, rfl⟩ : ∃ (n : Fin 2176) (d : Fin 128), y = ix2 n d := ⟨y 0, y 1, funext fun a => match a with | ⟨0, _⟩ => rfl | ⟨1, _⟩ => rfl⟩
  obtain ⟨M, hM⟩ := tops (exOf t) (headOf t) W
  have B := holds W t hM
  rw [emb8]
  refine (left_values m c t n d).trans ?_
  rw [Place.dv_in (rowAt_val t n) (head_real (exOf t) (headOf t) W) hM (laneAt'_val t d), ← Block.gradV_real B]

end Final

end
-- ==== Proof.Panels.lean ====
/- A contraction cut into panels, and the sum a grid's accumulator holds after each of them. -/
module

public import Idealize.ShloMosaic.Lib.Pointwise

@[expose] public section

noncomputable section

namespace Panels

open Idealize.ShloMosaic Idealize.ShloMosaic.ValueIdx

/-- An array's entry by two numbers, zero outside the array. -/
def cell {a b : ℕ} (x : Fin a → Fin b → EReal) (r c : ℕ) : EReal := if h : r < a ∧ c < b then x ⟨r, h.1⟩ ⟨c, h.2⟩ else 0

theorem cell_eq {a b : ℕ} (x : Fin a → Fin b → EReal) {r c : ℕ} (hr : r < a) (hc : c < b) : cell x r c = x ⟨r, hr⟩ ⟨c, hc⟩ :=
  dif_pos ⟨hr, hc⟩

/-- One more panel of `w` terms. -/
theorem more (g : ℕ → EReal) (w n : ℕ) :
    ∑ k ∈ Finset.range (w * (n + 1)), g k = ∑ k ∈ Finset.range (w * n), g k + ∑ k : Fin w, g (w * n + k.val) := by
  rw [Nat.mul_add, Nat.mul_one, Finset.sum_range_add, Finset.sum_range (fun k => g (w * n + k))]

/-- An accumulator that starts afresh at every `K`-th point and gains a panel at each point. -/
theorem held {N K w : ℕ} (hK : 0 < K) (S : ∀ n, n < N → EReal) (g : ℕ → ℕ → EReal)
    (first : ∀ n h, n % K = 0 → S n h = ∑ k : Fin w, g (n / K) (w * (n % K) + k.val))
    (next : ∀ n (h : n + 1 < N), (n + 1) % K ≠ 0 →
      S (n + 1) h = S n (by omega) + ∑ k : Fin w, g ((n + 1) / K) (w * ((n + 1) % K) + k.val)) :
    ∀ n h, S n h = ∑ k ∈ Finset.range (w * (n % K + 1)), g (n / K) k := by
  intro n
  induction n with
  | zero => intro h; rw [more, first 0 h (Nat.zero_mod K)]; simp
  | succ n ih =>
    intro h
    by_cases e : (n + 1) % K = 0
    · rw [more, first _ h e, e]; simp
    · have hq : (n + 1) / K = n / K := by
        rw [Nat.succ_div, if_neg (fun d => e (Nat.mod_eq_zero_of_dvd d)), Nat.add_zero]
      have hr : (n + 1) % K = n % K + 1 := by
        have a := Nat.div_add_mod (n + 1) K
        have b := Nat.div_add_mod n K
        rw [hq] at a
        omega
      rw [more, next n h e, ih, hq, hr]

/-- An accumulator that starts afresh at the first point only. -/
theorem once {N w : ℕ} (S : ∀ n, n < N → EReal) (g : ℕ → EReal) (first : ∀ h, S 0 h = ∑ k : Fin w, g (w * 0 + k.val))
    (next : ∀ n (h : n + 1 < N), S (n + 1) h = S n (by omega) + ∑ k : Fin w, g (w * (n + 1) + k.val)) :
    ∀ n h, S n h = ∑ k ∈ Finset.range (w * (n + 1)), g k := by
  intro n
  induction n with
  | zero => intro h; rw [more, first h]; simp
  | succ n ih => intro h; rw [more, next n h, ih]

end Panels

end
-- ==== Proof.Weight.lean ====
/- The gradient of the input projection's weight: what the accumulator holds, and the array at the end. -/
module

public import proofs.«01_k».proof.Defs
public import proofs.«01_k».proof.Proof.Panels
public import proofs.«01_k».proof.Proof.Gen.InWeightIdeal.Value
public import proofs.«01_k».proof.Proof.Gen.InWeightMathIdeal.Run
public import proofs.«01_k».proof.Proof.Gen.InWeightMathIdeal.Read
public import Idealize.ShloMosaic.Lib.Pipeline.ValueKit
public import Idealize.ShloMosaic.Adequacy
public import Idealize.ShloMosaic.Lib.StableHlo.ReadAt

@[expose] public section

set_option maxRecDepth 16384

noncomputable section

namespace InWeight

open Cert.InWeightIdeal Cert.InWeightIdeal.Gen Idealize.ShloMosaic Idealize.ShloMosaic.TcCoe Idealize.SL.Sem Panels

variable (m : (ℓ : Loc nD τ sig) → Buf (Elt Ideal) ℓ) (c : Dev nD)

/-- The gradient of the projection and the projected rows, by their shapes. -/
abbrev dz : FVec Ideal S8704x3072 .f32 := m ((c : Thread nD τ).loc main_arg0)
abbrev rows : FVec Ideal S8704x1024 .f32 := m ((c : Thread nD τ).loc main_arg1)

theorem v0_eq : V m c main_v0 = truncf .bf16 (dz m c) bitsLt_bf16_f32 := by
  unfold V; after_reads_simp
theorem v1_eq : V m c main_v1 = truncf .bf16 (rows m c) bitsLt_bf16_f32 := by
  unfold V; after_reads_simp

theorem places : ∀ t : Fin cfg0.N, win0_0.index t = ![t.val % 17, t.val / 17] ∧ win0_1.index t = ![t.val % 17, 0] :=
  (by decide +kernel : ∀ t : Fin grid0.N, _)

variable (t : Fin cfg0.N)

theorem lt51 : t.val < 51 := lt_of_lt_of_eq t.isLt N_0

theorem dz_at (k : Fin 512) (j : Fin 1024) :
    iblk m c 0 t (ix2 k j) = cell (fun r l => dz m c (ix2 r l)) (512 * (t.val % 17) + k.val) (t.val / 17 * 1024 + j.val) := by
  have h := lt51 t
  have e : (win0_0.blk t).view.emb (ix2 k j) = ix2 (⟨512 * (t.val % 17) + k.val, by omega⟩ : Fin 8704) (⟨t.val / 17 * 1024 + j.val, by omega⟩ : Fin 3072) := by
    blk_ext [places t]
  blk_simp [iblk]
  rw [cell_eq _ (by omega) (by omega)]
  exact (congrFun (v0_eq m c) _).trans (congrArg _ e)

theorem rows_at (k : Fin 512) (j : Fin 1024) :
    iblk m c 1 t (ix2 k j) = cell (fun r l => rows m c (ix2 r l)) (512 * (t.val % 17) + k.val) j.val := by
  have h := lt51 t
  have e : (win0_1.blk t).view.emb (ix2 k j) = ix2 (⟨512 * (t.val % 17) + k.val, by omega⟩ : Fin 8704) j := by
    blk_ext [places t]
  blk_simp [iblk]
  rw [cell_eq _ (by omega) (by omega)]
  exact (congrFun (v1_eq m c) _).trans (congrArg _ e)

variable (i : grid0.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec Ideal S512x1024 .bf16) (s : Vec Ideal S1024x1024 .f32) (a b : Fin 1024)

theorem reset (h0 : cond0_0 i) (h1 : ¬cond0_1 i) :
    sout0_A_0 c i arg3 harg3 arg4 harg4 arg5 harg5 arg6 harg6 h0 h1 x0 x1 (ix2 a b) = ∑ k : Fin 512, x0 (ix2 k a) * x1 (ix2 k b) := by
  unfold sout0_A_0
  frame_out
  unfold_payloads
  pointwise

theorem step (h0 : ¬cond0_0 i) (h1 : ¬cond0_1 i) :
    sout0_B_0 c i arg3 harg3 arg4 harg4 arg5 harg5 arg6 harg6 h0 h1 x0 x1 s (ix2 a b)
      = s (ix2 a b) + ∑ k : Fin 512, x0 (ix2 k a) * x1 (ix2 k b) := by
  unfold sout0_B_0
  frame_out
  unfold_payloads
  pointwise

theorem lastHeld (h0 : ¬cond0_0 i) (h1 : cond0_1 i) :
    sout0_C_0 c i arg3 harg3 arg4 harg4 arg5 harg5 arg6 harg6 h0 h1 x0 x1 s (ix2 a b)
      = s (ix2 a b) + ∑ k : Fin 512, x0 (ix2 k a) * x1 (ix2 k b) := by
  unfold sout0_C_0
  frame_out
  unfold_payloads
  pointwise

theorem last (h0 : ¬cond0_0 i) (h1 : cond0_1 i) :
    out0_C_2 c i arg3 harg3 arg4 harg4 arg5 harg5 arg6 harg6 h0 h1 x0 x1 s (ix2 a b)
      = s (ix2 a b) + ∑ k : Fin 512, x0 (ix2 k a) * x1 (ix2 k b) := by
  unfold out0_C_2
  frame_out
  unfold_payloads
  pointwise

/-- What the accumulator holds after a point: the sum over the panels of rows so far. -/
theorem held (n : ℕ) (h : n < cfg0.N) : (outsAt0 m c n h).2 (ix2 a b)
    = ∑ k ∈ Finset.range (512 * (n % 17 + 1)), cell (fun r l => dz m c (ix2 r l)) k (n / 17 * 1024 + a.val) * cell (fun r l => rows m c (ix2 r l)) k b.val := by
  refine Panels.held (K := 17) (by decide) (fun n h => (outsAt0 m c n h).2 (ix2 a b))
    (fun q k => cell (fun r l => dz m c (ix2 r l)) k (q * 1024 + a.val) * cell (fun r l => rows m c (ix2 r l)) k b.val) ?_ ?_ n h
  · intro n h e
    have A := outsAt0_A m c ⟨n, h⟩ e (by show ¬ n % 17 = 16; omega)
    dsimp only at A ⊢
    rw [A]
    dsimp only
    rw [reset]
    exact Finset.sum_congr rfl fun k _ => congrArg₂ _ (dz_at m c ⟨n, h⟩ k a) (rows_at m c ⟨n, h⟩ k b)
  · intro n h e
    by_cases f : (n + 1) % 17 = 16
    · have A := outsAt0_C m c ⟨n + 1, h⟩ e f
      dsimp only at A ⊢
      rw [A]
      dsimp only
      rw [lastHeld]
      exact congrArg₂ _ rfl (Finset.sum_congr rfl fun k _ => congrArg₂ _ (dz_at m c ⟨n + 1, h⟩ k a) (rows_at m c ⟨n + 1, h⟩ k b))
    · have A := outsAt0_B m c ⟨n + 1, h⟩ e f
      dsimp only at A ⊢
      rw [A]
      dsimp only
      rw [step]
      exact congrArg₂ _ rfl (Finset.sum_congr rfl fun k _ => congrArg₂ _ (dz_at m c ⟨n + 1, h⟩ k a) (rows_at m c ⟨n + 1, h⟩ k b))

theorem written (n : ℕ) (h : n < cfg0.N) (f : n % 17 = 16) : (outsAt0 m c n h).1 (ix2 a b)
    = ∑ k ∈ Finset.range 8704, cell (fun r l => dz m c (ix2 r l)) k (n / 17 * 1024 + a.val) * cell (fun r l => rows m c (ix2 r l)) k b.val := by
  have e := held m c a b n h
  rw [f] at e
  have A := outsAt0_C m c ⟨n, h⟩ (by show ¬ n % 17 = 0; omega) f
  dsimp only at A
  rw [A] at e ⊢
  dsimp only at e ⊢
  rw [last, ← e, lastHeld]

/-- The reference's entry. -/
theorem math_at (x0 : FVec Ideal S8704x3072 .f32) (x1 : FVec Ideal S8704x1024 .f32) (r : Fin 3072) (l : Fin 1024) :
    Cert.InWeightMathIdeal.Read.val_main_v6 (F := Ideal) x0 x1 (ix2 r l) = ∑ k : Fin 8704, x0 (ix2 k r) * x1 (ix2 k l) := by
  pointwise [Cert.InWeightMathIdeal.Read.val_main_v6, Cert.InWeightMathIdeal.Read.val_main_v5, Cert.InWeightMathIdeal.Read.val_main_v4,
    Cert.InWeightMathIdeal.Read.val_main_v3]

/-- The array the kernel leaves is the reference's. -/
theorem equal : Value.G2 m c = Cert.InWeightMathIdeal.Read.val_main_v6 (F := Ideal) (dz m c) (rows m c) := by
  funext y
  obtain ⟨r, l, rfl⟩ : ∃ (r : Fin 3072) (l : Fin 1024), y = ix2 r l := ⟨y 0, y 1, by ext a; fin_cases a <;> rfl⟩
  refine Eq.trans ?_ (math_at _ _ r l).symm
  have hp : Value.pt2Of (ix2 r l) = 17 * (r.val / 1024) + 16 := by
    show 17 * (1 * (r.val / 1024 - 0) + 1 * (l.val / 1024 - 0)) + 16 = _
    omega
  have hN : Value.pt2Of (ix2 r l) < cfg0.N := by rw [hp, show cfg0.N = 51 from N_0]; omega
  have hl : Value.loc2Of (ix2 r l) = ix2 (⟨r.val % 1024, Nat.mod_lt _ (by decide)⟩ : Fin 1024) l := by
    funext x
    fin_cases x
    · rfl
    · exact Fin.ext (Nat.mod_eq_of_lt l.isLt)
  unfold Value.G2
  rw [dif_pos hN, ← Value.outsAt0_sweep m c _ hN, hl]
  have w := written m c (⟨r.val % 1024, Nat.mod_lt _ (by decide)⟩ : Fin 1024) l _ hN (by rw [hp]; omega)
  rw [Finset.sum_range] at w
  refine w.trans ?_
  refine Finset.sum_congr rfl fun k _ => ?_
  rw [cell_eq _ k.isLt (by rw [hp]; have := r.isLt; dsimp only; omega), cell_eq _ k.isLt l.isLt]
  refine congrArg₂ _ (congrArg (dz m c) (congrArg₂ ix2 rfl (Fin.ext ?_))) rfl
  show Value.pt2Of (ix2 r l) / 17 * 1024 + r.val % 1024 = r.val
  rw [hp]
  omega

/-- The reference runs and leaves its arguments and the semaphores as they were. -/
theorem frame_math : Cert.quiescent_InWeightMathIdeal := fun m ρ _ =>
  (θ_run Cert.InWeightMathIdeal.defs _ _).mono (fun r h => ⟨fun c => (h c).2, sem_eq_zero_of_no_sems (by decide) r.2⟩)
    (Cert.InWeightMathIdeal.Value.run (F := Ideal) m ρ)

/-- The kernel's result is the reference's. -/
theorem agree : Cert.algebraic_InWeightIdeal_InWeightMathIdeal := by
  intro m g m' g' _ ha
  refine ⟨fun c => Cert.InWeightMathIdeal.Read.val_main_v6 (F := Ideal) (dz m c) (rows m c), ?_, ?_⟩
  · exact (θ_run Cert.InWeightIdeal.defs _ _).mono (fun r h c => ⟨(h c).1.trans (equal m c), (h c).2⟩) (Value.run (F := Ideal) m g)
  · refine (θ_run Cert.InWeightMathIdeal.defs _ _).mono (fun r h c => ⟨(h c).1.trans ?_, (h c).2⟩) (Cert.InWeightMathIdeal.Value.run (F := Ideal) m' g')
    obtain ⟨e0, e1⟩ := ha c
    rw [Cert.InWeightMathIdeal.Read.val_main_v6_eq, e0, e1]

end InWeight

end
-- ==== Proof.Input.lean ====
/- The gradient of the input projection's rows: one block of rows, and the array at the end. -/
module

public import proofs.«01_k».proof.Defs
public import proofs.«01_k».proof.Proof.Gen.InInputIdeal.Value
public import proofs.«01_k».proof.Proof.Gen.InInputMathIdeal.Run
public import proofs.«01_k».proof.Proof.Gen.InInputMathIdeal.Read
public import Idealize.ShloMosaic.Lib.Pointwise
public import Idealize.ShloMosaic.Lib.Pipeline.ValueKit
public import Idealize.ShloMosaic.Adequacy
public import Idealize.ShloMosaic.Lib.StableHlo.ReadAt

@[expose] public section

set_option maxRecDepth 16384

noncomputable section

namespace InInput

open Cert.InInputIdeal Cert.InInputIdeal.Gen Idealize.ShloMosaic Idealize.ShloMosaic.TcCoe Idealize.SL.Sem

variable (m : (ℓ : Loc nD τ sig) → Buf (Elt Ideal) ℓ) (c : Dev nD)

/-- The gradient of the projection and the weight, by their shapes. -/
abbrev dz : FVec Ideal S8704x3072 .f32 := m ((c : Thread nD τ).loc main_arg0)
abbrev weight : FVec Ideal S3072x1024 .f32 := m ((c : Thread nD τ).loc main_arg1)

theorem v0_eq : V m c main_v0 = truncf .bf16 (dz m c) bitsLt_bf16_f32 := by
  unfold V; after_reads_simp
theorem v1_eq : V m c main_v1 = truncf .bf16 (weight m c) bitsLt_bf16_f32 := by
  unfold V; after_reads_simp

theorem places : ∀ t : Fin cfg0.N, win0_0.index t = ![t.val, 0] ∧ win0_1.index t = ![0, 0] ∧ win0_2.index t = ![t.val, 0] :=
  (by decide +kernel : ∀ t : Fin grid0.N, _)

variable (t : Fin cfg0.N)

theorem lt8 : t.val < 8 := t.isLt

/-- Row `n` of the block, in the arrays. -/
def rowAt (n : Fin 1088) : Fin 8704 := ⟨t.val * 1088 + n.val, by have := lt8 t; omega⟩

theorem dz_at (n : Fin 1088) (k : Fin 3072) : iblk m c 0 t (ix2 n k) = dz m c (ix2 (rowAt t n) k) := by
  have e : (win0_0.blk t).view.emb (ix2 n k) = ix2 (rowAt t n) k := by
    unfold rowAt
    blk_ext [places t]
  blk_simp [iblk]
  exact (congrFun (v0_eq m c) _).trans (congrArg _ e)

theorem weight_at (k : Fin 3072) (l : Fin 1024) : iblk m c 1 t (ix2 k l) = weight m c (ix2 k l) := by
  have e : (win0_1.blk t).view.emb (ix2 k l) = ix2 k l := by
    blk_ext [places t]
  blk_simp [iblk]
  exact (congrFun (v1_eq m c) _).trans (congrArg _ e)

theorem block_at (x0 : Vec Ideal S1088x3072 .bf16) (x1 : Vec Ideal S3072x1024 .bf16) (n : Fin 1088) (l : Fin 1024) :
    out0_2 x0 x1 (ix2 n l) = ∑ k : Fin 3072, x0 (ix2 n k) * x1 (ix2 k l) := by
  unfold out0_2
  frame_out
  unfold_payloads
  pointwise

/-- The reference's entry. -/
theorem math_at (x0 : FVec Ideal S8704x3072 .f32) (x1 : FVec Ideal S3072x1024 .f32) (r : Fin 8704) (l : Fin 1024) :
    Cert.InInputMathIdeal.Read.val_main_v3 (F := Ideal) x0 x1 (ix2 r l) = ∑ k : Fin 3072, x0 (ix2 r k) * x1 (ix2 k l) := by
  pointwise [Cert.InInputMathIdeal.Read.val_main_v3, Cert.InInputMathIdeal.Read.val_main_v1]

/-- The array the kernel leaves is the reference's. -/
theorem equal : (dats m 0 c).arrAt 2 cfg0.N = Cert.InInputMathIdeal.Read.val_main_v3 (F := Ideal) (dz m c) (weight m c) := by
  refine (dats m 0 c).arrAt_eq_of_covers 2 _ (by decide +kernel) fun t _ y => ?_
  blk_simp
  rw [after0_2]
  obtain ⟨n, l, rfl⟩ : ∃ (n : Fin 1088) (l : Fin 1024), y = ix2 n l := ⟨y 0, y 1, by ext a; fin_cases a <;> rfl⟩
  have e : (win0_2.blk t).view.emb (ix2 n l) = ix2 (rowAt t n) l := by
    unfold rowAt
    blk_ext [places t]
  refine (block_at _ _ n l).trans ?_
  refine Eq.trans ?_ ((congrArg _ e).trans (math_at _ _ (rowAt t n) l)).symm
  exact Finset.sum_congr rfl fun k _ => congrArg₂ _ (dz_at m c t n k) (weight_at m c t k l)

/-- The reference runs and leaves its arguments and the semaphores as they were. -/
theorem frame_math : Cert.quiescent_InInputMathIdeal := fun m ρ _ =>
  (θ_run Cert.InInputMathIdeal.defs _ _).mono (fun r h => ⟨fun c => (h c).2, sem_eq_zero_of_no_sems (by decide) r.2⟩)
    (Cert.InInputMathIdeal.Value.run (F := Ideal) m ρ)

/-- The kernel's result is the reference's. -/
theorem agree : Cert.algebraic_InInputIdeal_InInputMathIdeal := by
  intro m g m' g' _ ha
  refine ⟨fun c => Cert.InInputMathIdeal.Read.val_main_v3 (F := Ideal) (dz m c) (weight m c), ?_, ?_⟩
  · exact (θ_run Cert.InInputIdeal.defs _ _).mono (fun r h c => ⟨(h c).1.trans (equal m c), (h c).2⟩) (Value.run_blocks (F := Ideal) m g)
  · refine (θ_run Cert.InInputMathIdeal.defs _ _).mono (fun r h c => ⟨(h c).1.trans ?_, (h c).2⟩) (Cert.InInputMathIdeal.Value.run (F := Ideal) m' g')
    obtain ⟨e0, e1⟩ := ha c
    rw [Cert.InInputMathIdeal.Read.val_main_v3_eq, e0, e1]

end InInput

end
-- ==== Proof.Fold.lean ====
/- One grid point of the forward attention kernel: what it leaves in the output and in the logarithms, as sums over the key rows
   of its blocks. -/
module

public import proofs.«01_k».proof.Proof.Gen.AttendIdeal.Frame
public import proofs.«01_k».proof.Proof.Gather
public import Idealize.ShloMosaic.Lib.Pointwise
public import Idealize.ShloMosaic.Lib.UnfoldOut
public import Idealize.ShloMosaic.Lib.Tactic.RunNames
public import Idealize.ShloMosaic.Lib.IdealHost

@[expose] public section
set_option maxRecDepth 16384
noncomputable section
namespace Fold
open Cert.AttendIdeal Cert.AttendIdeal.Gen Idealize.ShloMosaic Idealize.ShloMosaic.TcCoe Idealize.SL.Sem Rows Tile

variable (c : Dev nD) (i : grid0.Coords) (arg2 : Memref sig .tc .vmem S2176x256 .bf16) (harg2 : arg2.IsWhole) (arg3 : Memref sig .tc .vmem S2176x256 .bf16) (harg3 : arg3.IsWhole) (arg4 : Memref sig .tc .vmem S2176x128 .bf16) (harg4 : arg4.IsWhole) (arg5 : Memref sig .tc .vmem S2176x128 .f32) (harg5 : arg5.IsWhole) (arg6 : Memref sig .tc .vmem S2176x128 .f32) (harg6 : arg6.IsWhole)
variable (x0 x1 : (Arr 2176 256).Idx → EReal) (x2 : (Arr 2176 128).Idx → EReal)

/-- The score of key row `k` and query row `q`, minus infinity where the key is hidden. -/
def score (q k : ℕ) : EReal := if Vis k q then ∑ d, row x0 q d * row x1 k d else ⊥

/-- The largest score of query row `q` among the first `e` key rows. -/
def peak (q e : ℕ) : EReal := (Finset.range e).sup (score x0 x1 q)

/-- The power of two of a score lowered by it, -/
def weight (q e k : ℕ) : EReal := Ideal.exp2 (score x0 x1 q k - peak x0 x1 q e)
/-- their sum over the first `n` key rows, -/
def mass (q e n : ℕ) : EReal := ∑ k ∈ Finset.range n, weight x0 x1 q e k
/-- and their sum against the value rows. -/
def mixed (q e n : ℕ) (d : Fin 128) : EReal := ∑ k ∈ Finset.range n, weight x0 x1 q e k * row x2 k d

/-- Row `q` of the output, -/
def outRow (q : ℕ) (d : Fin 128) : EReal := Ideal.div (mixed x0 x1 x2 q 2176 2176 d) (mass x0 x1 q 2176 2176)
/-- of the logarithms. -/
def logRow (q : ℕ) (_ : Fin 128) : EReal :=
  peak x0 x1 q 2176 + Ideal.div (Ideal.log (mass x0 x1 q 2176 2176)) ((Real.log 2 : ℝ) : EReal)

/-- Key rows of earlier chunks, past the padding, are seen. -/
theorem score_open {a n b m : ℕ} (ha : 112 ≤ a) (hn : a + n ≤ b + 64) (hb : b % 64 = 0) (r : Fin m) (j : Fin n) :
    ∑ d, row x0 (b + r.val) d * row x1 (a + j.val) d = score x0 x1 (b + r.val) (a + j.val) := by
  have := j.isLt
  rw [score, if_pos ⟨by omega, by omega⟩]

theorem score_mask (q k : ℕ) : (if Vis k q then ∑ d, row x0 q d * row x1 k d else ⊥) = score x0 x1 q k := rfl

theorem peak_first (q m : ℕ) : (Finset.univ.fold max ⊥ fun j : Fin m => score x0 x1 q j.val) = peak x0 x1 q m := by
  refine le_antisymm ((Finset.fold_max_le _).2 ⟨bot_le, fun j _ => Finset.le_sup (f := score x0 x1 q) (Finset.mem_range.2 j.isLt)⟩)
    (Finset.sup_le fun k hk => (Finset.le_fold_max _).2 (.inr ⟨⟨k, Finset.mem_range.1 hk⟩, Finset.mem_univ _, le_refl _⟩))

theorem peak_more (q b m : ℕ) :
    max (peak x0 x1 q b) (Finset.univ.fold max ⊥ fun j : Fin m => score x0 x1 q (b + j.val)) = peak x0 x1 q (b + m) := by
  refine le_antisymm (max_le (Finset.sup_mono (Finset.range_mono (Nat.le_add_right _ _))) ((Finset.fold_max_le _).2
    ⟨bot_le, fun j _ => Finset.le_sup (f := score x0 x1 q) (Finset.mem_range.2 (Nat.add_lt_add_left j.isLt _))⟩))
    (Finset.sup_le fun k hk => ?_)
  by_cases h : k < b
  · exact le_max_of_le_left (Finset.le_sup (f := score x0 x1 q) (Finset.mem_range.2 h))
  · have hk' := Finset.mem_range.1 hk
    refine le_max_of_le_right ((Finset.le_fold_max _).2 (.inr ⟨⟨k - b, by omega⟩, Finset.mem_univ _, ?_⟩))
    show score x0 x1 q k ≤ score x0 x1 q (b + (k - b))
    rw [Nat.add_sub_cancel' (Nat.le_of_not_lt h)]

theorem weight_eq (q e k : ℕ) : Ideal.exp2 (score x0 x1 q k - peak x0 x1 q e) = weight x0 x1 q e k := rfl

theorem mass_first (q e m : ℕ) : ∑ j : Fin m, weight x0 x1 q e j.val = mass x0 x1 q e m := (sum_first _ m).symm
theorem mass_more (q e b m : ℕ) : mass x0 x1 q e b + ∑ j : Fin m, weight x0 x1 q e (b + j.val) = mass x0 x1 q e (b + m) :=
  (sum_more _ b m).symm
theorem mixed_first (q e m : ℕ) (d : Fin 128) : ∑ j : Fin m, weight x0 x1 q e j.val * row x2 j.val d = mixed x0 x1 x2 q e m d :=
  (sum_first (fun k => weight x0 x1 q e k * row x2 k d) m).symm
theorem mixed_more (q e b m : ℕ) (d : Fin 128) :
    mixed x0 x1 x2 q e b d + ∑ j : Fin m, weight x0 x1 q e (b + j.val) * row x2 (b + j.val) d = mixed x0 x1 x2 q e (b + m) d :=
  (sum_more (fun k => weight x0 x1 q e k * row x2 k d) b m).symm

section
variable {x0 x1 x2} {q e : ℕ} (hq : q < e) (hz : e % 64 = 0) (he : e ≤ 2176)
include hq hz

/-- Nothing is seen past the chunk of the query. -/
theorem score_past {k : ℕ} (hk : e ≤ k) : score x0 x1 q k = ⊥ := by
  rw [score, if_neg fun h => by have := h.2; omega]

theorem weight_past (n : ℕ) {k : ℕ} (hk : e ≤ k) : weight x0 x1 q n k = 0 := by
  rw [weight, score_past hq hz hk, EReal.bot_sub]; rfl

include he

theorem peak_reach : peak x0 x1 q e = peak x0 x1 q 2176 := by
  refine le_antisymm (Finset.sup_mono (Finset.range_mono he)) (Finset.sup_le fun k _ => ?_)
  by_cases h : k < e
  · exact Finset.le_sup (f := score x0 x1 q) (Finset.mem_range.2 h)
  · rw [score_past hq hz (Nat.le_of_not_lt h)]; exact bot_le

theorem mass_reach : mass x0 x1 q e e = mass x0 x1 q 2176 2176 := by
  simp only [mass, weight, peak_reach hq hz he]
  exact Finset.sum_subset (Finset.range_mono he) fun k _ hk => weight_past hq hz 2176 (by simpa using hk)

theorem mixed_reach (d : Fin 128) : mixed x0 x1 x2 q e e d = mixed x0 x1 x2 q 2176 2176 d := by
  simp only [mixed, weight, peak_reach hq hz he]
  refine Finset.sum_subset (Finset.range_mono he) fun k _ hk => ?_
  exact (congrArg (· * _) (weight_past hq hz 2176 (by simpa using hk))).trans (zero_mul _)

theorem row_out (d : Fin 128) : Ideal.div (mixed x0 x1 x2 q e e d) (mass x0 x1 q e e) = outRow x0 x1 x2 q d := by
  rw [mixed_reach hq hz he, mass_reach hq hz he, outRow]

theorem row_log (d : Fin 128) :
    peak x0 x1 q e + Ideal.div (Ideal.log (mass x0 x1 q e e)) ((Real.log 2 : ℝ) : EReal) = logRow x0 x1 q d := by
  rw [peak_reach hq hz he, mass_reach hq hz he, logRow]

end

theorem bot_word : Ideal.ofBits .f32 0xFF800000#32 = ⊥ := by simp [Ideal.ofBits, Ideal.ieee]
theorem mask_bot : Named.named (F := Ideal) κ "mask" (φ := .f32) 0xF149F2CA#32 = (⊥ : EReal) := rfl
theorem ln2_log : Named.named (F := Ideal) κ "ln2" (φ := .f32) 0x3F317218#32 = ((Real.log 2 : ℝ) : EReal) := rfl
theorem exp2_ideal (x : EReal) : (FloatOps.exp2 (F := Ideal) (φ := .f32) x : EReal) = Ideal.exp2 x := rfl

theorem log_ideal (x : EReal) : (FloatOps.log (F := Ideal) (φ := .f32) x : EReal) = Ideal.log x := rfl

/-- The kernel leaves the output, -/
theorem out_rows (n : Fin 2176) (d : Fin 128) : out0_A_3 (F := Ideal) c i arg2 harg2 arg3 harg3 arg4 harg4 arg5 harg5 arg6 harg6 x0 x1 x2 (ix2 n d) = outRow x0 x1 x2 n.val d := by
  rw [out0_A_3, View.read_writes_junk_eq_canon]
  refine canon_of_tells (N := 2176) (w := 128) (e := .f32) (outRow x0 x1 x2) _ ?_ (cover0_A_3 (F := Ideal) c i arg2 harg2 arg3 harg3 arg4 harg4 arg5 harg5 arg6 harg6 x0 x1 x2) n d
  refine List.forall_mem_cons.2 ⟨tells_of (N := 2176) (w := 128) (e := .f32) (a := 2048) (m := 128) _ _ _ fun r d => ?_,
    List.forall_mem_cons.2 ⟨tells_of (N := 2176) (w := 128) (e := .f32) (a := 1792) (m := 256) _ _ _ fun r d => ?_,
    List.forall_mem_cons.2 ⟨tells_of (N := 2176) (w := 128) (e := .f32) (a := 1536) (m := 256) _ _ _ fun r d => ?_,
    List.forall_mem_cons.2 ⟨tells_of (N := 2176) (w := 128) (e := .f32) (a := 1280) (m := 256) _ _ _ fun r d => ?_,
    List.forall_mem_cons.2 ⟨tells_of (N := 2176) (w := 128) (e := .f32) (a := 1024) (m := 256) _ _ _ fun r d => ?_,
    List.forall_mem_cons.2 ⟨tells_of (N := 2176) (w := 128) (e := .f32) (a := 768) (m := 256) _ _ _ fun r d => ?_,
    List.forall_mem_cons.2 ⟨tells_of (N := 2176) (w := 128) (e := .f32) (a := 512) (m := 256) _ _ _ fun r d => ?_,
    List.forall_mem_cons.2 ⟨tells_of (N := 2176) (w := 128) (e := .f32) (a := 256) (m := 256) _ _ _ fun r d => ?_,
    List.forall_mem_singleton.2 (tells_of (N := 2176) (w := 128) (e := .f32) (a := 0) (m := 256) _ _ _ fun r d => ?_)⟩⟩⟩⟩⟩⟩⟩⟩
  all_goals
    have hr := r.isLt
    sl_unfold_run_values
    unfold_payloads
    pointwise
    simp (disch := decide) only [load_row_half, select_full, Nat.zero_add, mask_bot, ln2_log, exp2_ideal, bot_word, log_ideal]
    simp (disch := decide) only [score_open, score_mask]
    simp only [peak_first, peak_more, weight_eq, mass_first, mass_more, mixed_first, mixed_more]
    exact row_out (by omega) (by decide) (by decide) d

/-- and the logarithms. -/
theorem log_rows (n : Fin 2176) (d : Fin 128) : out0_A_4 (F := Ideal) c i arg2 harg2 arg3 harg3 arg4 harg4 arg5 harg5 arg6 harg6 x0 x1 x2 (ix2 n d) = logRow x0 x1 n.val d := by
  rw [out0_A_4, View.read_writes_junk_eq_canon]
  refine canon_of_tells (N := 2176) (w := 128) (e := .f32) (logRow x0 x1) _ ?_ (cover0_A_4 (F := Ideal) c i arg2 harg2 arg3 harg3 arg4 harg4 arg5 harg5 arg6 harg6 x0 x1 x2) n d
  refine List.forall_mem_cons.2 ⟨tells_of (N := 2176) (w := 128) (e := .f32) (a := 2048) (m := 128) _ _ _ fun r d => ?_,
    List.forall_mem_cons.2 ⟨tells_of (N := 2176) (w := 128) (e := .f32) (a := 1792) (m := 256) _ _ _ fun r d => ?_,
    List.forall_mem_cons.2 ⟨tells_of (N := 2176) (w := 128) (e := .f32) (a := 1536) (m := 256) _ _ _ fun r d => ?_,
    List.forall_mem_cons.2 ⟨tells_of (N := 2176) (w := 128) (e := .f32) (a := 1280) (m := 256) _ _ _ fun r d => ?_,
    List.forall_mem_cons.2 ⟨tells_of (N := 2176) (w := 128) (e := .f32) (a := 1024) (m := 256) _ _ _ fun r d => ?_,
    List.forall_mem_cons.2 ⟨tells_of (N := 2176) (w := 128) (e := .f32) (a := 768) (m := 256) _ _ _ fun r d => ?_,
    List.forall_mem_cons.2 ⟨tells_of (N := 2176) (w := 128) (e := .f32) (a := 512) (m := 256) _ _ _ fun r d => ?_,
    List.forall_mem_cons.2 ⟨tells_of (N := 2176) (w := 128) (e := .f32) (a := 256) (m := 256) _ _ _ fun r d => ?_,
    List.forall_mem_singleton.2 (tells_of (N := 2176) (w := 128) (e := .f32) (a := 0) (m := 256) _ _ _ fun r d => ?_)⟩⟩⟩⟩⟩⟩⟩⟩
  all_goals
    have hr := r.isLt
    sl_unfold_run_values
    unfold_payloads
    pointwise
    simp (disch := decide) only [load_row_half, select_full, Nat.zero_add, mask_bot, ln2_log, exp2_ideal, bot_word, log_ideal]
    simp (disch := decide) only [score_open, score_mask]
    simp only [peak_first, peak_more, weight_eq, mass_first, mass_more, mixed_first, mixed_more]
    exact row_log (by omega) (by decide) (by decide) d

end Fold
end
-- ==== Proof.Softmax.lean ====
/- One row of a softmax over extended reals, by powers of two and by exponentials: the mean of the values and the logarithm of the
   sum are the same, also when the row sees nothing or meets an infinity. -/
module

public import proofs.«01_k».proof.Proof.Attn

@[expose] public section

noncomputable section

namespace Softmax

open Idealize.ShloMosaic

theorem log_two_pos : 0 < Real.log 2 := Real.log_pos (by norm_num)

theorem div_real (x y : ℝ) (h : y ≠ 0) : Ideal.div (x : EReal) (y : EReal) = ((x / y : ℝ) : EReal) := by
  rw [Ideal.div_coe h, ← EReal.coe_mul, mul_one_div]

variable {N : ℕ}

section
variable (see : Fin N → Prop) [DecidablePred see] (t : Fin N → ℝ)

/-- The exponential of a score lowered by `m`, zero where nothing is seen. -/
def expo (m : ℝ) (k : Fin N) : ℝ := if see k then Real.exp (t k * Real.log 2 - m) else 0

theorem sum_pos (m : ℝ) {k : Fin N} (hk : see k) : 0 < ∑ k, expo see t m k :=
  Finset.sum_pos' (fun j _ => by unfold expo; split <;> positivity) ⟨k, Finset.mem_univ _, by rw [expo, if_pos hk]; exact Real.exp_pos _⟩

theorem expo_shift (m m' : ℝ) (k : Fin N) : expo see t m' k = Real.exp (m - m') * expo see t m k := by
  unfold expo
  split
  · rw [← Real.exp_add]; ring_nf
  · rw [mul_zero]

variable {see t} {σ τ : Fin N → EReal} (hσ : ∀ k, σ k = if see k then (t k : EReal) else ⊥)
  (hτ : ∀ k, τ k = if see k then ((t k * Real.log 2 : ℝ) : EReal) else ⊥)

include hτ in
theorem exp_row (m : ℝ) (k : Fin N) : Ideal.exp (τ k - m) = (expo see t m k : EReal) := by
  rw [hτ, expo]
  split
  · rw [← EReal.coe_sub, Ideal.exp_coe]
  · rw [EReal.bot_sub, Ideal.exp_bot]; rfl

include hσ in
theorem exp2_row (M : ℝ) (k : Fin N) : Ideal.exp2 (σ k - M) = (expo see t (M * Real.log 2) k : EReal) := by
  rw [hσ, expo]
  split
  · rw [← EReal.coe_sub, Ideal.exp2_coe, Real.rpow_eq_pow, Real.rpow_def_of_pos (by norm_num)]
    ring_nf
  · rw [EReal.bot_sub]; rfl

include hσ in
theorem top_real {M : EReal} (hM : M = Finset.univ.fold max ⊥ σ) {k : Fin N} (hk : see k) : ∃ r : ℝ, M = r := by
  rw [hM]
  refine Attn.fold_max_real σ (fun j => ?_) k ?_
  · rw [hσ]; split
    · exact EReal.coe_ne_top _
    · exact bot_ne_top
  · rw [hσ, if_pos hk]; exact EReal.coe_ne_bot _

end

/-- A positive factor leaves the sum's terms as they are, also the infinite ones. -/
theorem sum_scale {ι : Type*} (S : Finset ι) (f : ι → EReal) {c : ℝ} (hc : 0 ≤ c) : ∑ i ∈ S, f i * (c : EReal) = (∑ i ∈ S, f i) * (c : EReal) := by
  classical
  induction S using Finset.induction_on with
  | empty => simp
  | insert i S hi ih =>
    rw [Finset.sum_insert hi, Finset.sum_insert hi, ih,
      EReal.right_distrib_of_nonneg_of_ne_top (EReal.coe_nonneg.2 hc) (EReal.coe_ne_top c)]

/-- A quotient keeps its value when both sides take a factor. -/
theorem div_scale (A : EReal) {L C : ℝ} (hL : 0 < L) (hC : 0 < C) :
    Ideal.div (A * (C : EReal)) ((C * L : ℝ) : EReal) = Ideal.div A (L : EReal) := by
  rw [Ideal.div_coe (mul_pos hC hL).ne', Ideal.div_coe hL.ne', mul_assoc, ← EReal.coe_mul]
  rw [show C * (1 / (C * L)) = 1 / L by field_simp]

variable {σ τ v : Fin N → EReal} (hτ : ∀ k, τ k = σ k * ((Real.log 2 : ℝ) : EReal)) {M m : EReal}
  (hM : M = Finset.univ.fold max ⊥ σ) (hm : m = Finset.univ.fold max ⊥ τ)
include hτ hM hm

/-- Either every exponential is zero, or the largest scores are reals and the powers of two are the exponentials times a positive
    factor. -/
theorem cases_row : (M + ⊥ = ⊥ ∧ m + ⊥ = ⊥ ∧ (∀ k, Ideal.exp2 (σ k - M) = 0) ∧ ∀ k, Ideal.exp (τ k - m) = 0)
    ∨ ∃ (r s C : ℝ) (e : Fin N → ℝ), M = r ∧ m = s ∧ 0 < C ∧ 0 < ∑ k, e k ∧ Real.log C = s - r * Real.log 2
      ∧ (∀ k, Ideal.exp2 (σ k - M) = ((C * e k : ℝ) : EReal)) ∧ ∀ k, Ideal.exp (τ k - m) = (e k : EReal) := by
  have zero (k : Fin N) (x : EReal) (f : Fin N → EReal) (h : (∀ k, f k = ⊥) ∨ x = ⊤) : f k - x = ⊥ := by
    rcases h with h | h
    · rw [h, EReal.bot_sub]
    · rw [h, EReal.sub_top]
  by_cases hb : ∀ k, σ k = ⊥
  · have hb' (k) : τ k = ⊥ := by rw [hτ, hb, EReal.bot_mul_coe_of_pos log_two_pos]
    exact .inl ⟨EReal.add_bot _, EReal.add_bot _, fun k => by rw [zero k M σ (.inl hb)]; rfl, fun k => by rw [zero k m τ (.inl hb')]; rfl⟩
  · by_cases ht : ∃ k, σ k = ⊤
    · obtain ⟨k, hk⟩ := ht
      have e : M = ⊤ := top_le_iff.1 (hM ▸ (Finset.le_fold_max _).2 (.inr ⟨k, Finset.mem_univ _, hk.ge⟩))
      have e' : m = ⊤ := top_le_iff.1 (hm ▸ (Finset.le_fold_max _).2 (.inr ⟨k, Finset.mem_univ _, by
        rw [hτ, hk, EReal.top_mul_coe_of_pos log_two_pos]⟩))
      exact .inl ⟨EReal.add_bot _, EReal.add_bot _, fun k => by rw [zero k M σ (.inr e)]; rfl, fun k => by rw [zero k m τ (.inr e')]; rfl⟩
    · obtain ⟨k, hk⟩ := not_forall.1 hb
      have hs (k) : σ k = if σ k ≠ ⊥ then ((σ k).toReal : EReal) else ⊥ := by
        split
        · next h => exact (EReal.coe_toReal (fun h' => ht ⟨k, h'⟩) h).symm
        · next h => exact not_not.1 h
      have ht (k) : τ k = if σ k ≠ ⊥ then (((σ k).toReal * Real.log 2 : ℝ) : EReal) else ⊥ := by
        rw [hτ]
        conv_lhs => rw [hs k]
        split
        · exact (EReal.coe_mul _ _).symm
        · exact EReal.bot_mul_coe_of_pos log_two_pos
      obtain ⟨r, rfl⟩ := top_real hs hM hk
      obtain ⟨s, rfl⟩ := top_real (t := fun k => (σ k).toReal * Real.log 2) ht hm hk
      exact .inr ⟨r, s, Real.exp (s - r * Real.log 2), expo (fun k => σ k ≠ ⊥) (fun k => (σ k).toReal) s, rfl, rfl, Real.exp_pos _,
        sum_pos _ _ s hk, Real.log_exp _, fun k => by rw [exp2_row hs, expo_shift _ _ s], exp_row ht s⟩

/-- The mean of the values. -/
theorem mean_eq : Ideal.div (∑ k, Ideal.exp2 (σ k - M) * v k) (∑ k, Ideal.exp2 (σ k - M))
    = Ideal.div (∑ k, v k * Ideal.exp (τ k - m)) (∑ k, Ideal.exp (τ k - m)) := by
  rcases cases_row hτ hM hm with ⟨-, -, e, e'⟩ | ⟨r, s, C, e, -, -, hC, he, -, h2, h1⟩
  · simp only [e, e', zero_mul, mul_zero]
  · have hsum : ∑ k, ((C * e k : ℝ) : EReal) * v k = (∑ k, v k * (e k : EReal)) * (C : EReal) := by
      rw [← sum_scale _ _ hC.le]
      exact Finset.sum_congr rfl fun k _ => by rw [EReal.coe_mul, mul_comm (C : EReal), mul_assoc, mul_comm (C : EReal), ← mul_assoc, mul_comm (v k)]
    simp only [h1, h2]
    rw [hsum, ← Attn.coe_sum, ← Attn.coe_sum, ← Finset.mul_sum, div_scale _ he hC]

/-- The logarithm of the sum. -/
theorem log_eq : M + Ideal.div (Ideal.log (∑ k, Ideal.exp2 (σ k - M))) ((Real.log 2 : ℝ) : EReal)
    = Ideal.div (m + Ideal.log (∑ k, Ideal.exp (τ k - m))) ((Real.log 2 : ℝ) : EReal) := by
  rcases cases_row hτ hM hm with ⟨b, b', e, e'⟩ | ⟨r, s, C, e, rfl, rfl, hC, he, hl, h2, h1⟩
  · have l : Ideal.log 0 = ⊥ := by
      rw [← EReal.coe_zero, Ideal.log_coe, if_pos (le_refl _)]
    have d : Ideal.div ⊥ ((Real.log 2 : ℝ) : EReal) = ⊥ := by
      rw [Ideal.div_coe log_two_pos.ne', EReal.bot_mul_coe_of_pos (one_div_pos.2 log_two_pos)]
    simp only [e, e', Finset.sum_const_zero]
    rw [l, d, b, b', d]
  · simp only [h1, h2, ← Attn.coe_sum, ← Finset.mul_sum]
    rw [Ideal.log_coe, Ideal.log_coe, if_neg he.not_ge, if_neg (mul_pos hC he).not_ge, div_real _ _ log_two_pos.ne',
      ← EReal.coe_add, ← EReal.coe_add, div_real _ _ log_two_pos.ne', Real.log_mul hC.ne' he.ne', hl]
    have := log_two_pos.ne'
    congr 1
    field_simp
    ring

end Softmax

end
-- ==== Proof.Whole.lean ====
/- The forward attention's reference, over every query row, read one entry at a time. -/
module

public import proofs.«01_k».proof.Proof.Gen.AttendMathIdeal.Read
public import proofs.«01_k».proof.Proof.RefVal
public import proofs.«01_k».proof.Proof.Softmax

@[expose] public section

set_option maxRecDepth 16384

noncomputable section

namespace Whole

open Cert.AttendMathIdeal Cert.AttendMathIdeal.Read Idealize.ShloMosaic Ref Tile

theorem chunk_key (i : S2176.Idx) : val_main_v5 (F := Ideal) i = chunkWord (BitVec.ofNat 32 (i 0).val) := rfl

theorem chunk_query (i : S2176.Idx) :
    val_main_v11 (F := Ideal) i = chunkWord (IntOp.addi 0#32 (BitVec.ofNat 32 (i 0).val)) := rfl

theorem unit_at (i : S_.Idx) : val_main_v1 (F := Ideal) i = ((Real.log 2 / scale : ℝ) : EReal) := by
  rw [val_main_v1_apply]
  show Ideal.div (Ideal.log (Ideal.ofBits .f32 0x40000000#32)) (Ideal.ofBits .f32 0x3D93CD3A#32) = _
  rw [log_two_word, scale_word, div_real _ _ scale_pos.ne']

variable (x0 x1 : FVec Ideal S4x2176x8x192 .f32) (x2 : FVec Ideal S4x2176x8x128 .f32)
variable (b : Fin 4) (h : Fin 8) (q k : Fin 2176)

theorem query_at (d : Fin 192) :
    val_main_v3 (F := Ideal) x0 (ix4 b q h d) = x0 (ix4 b q h d) * val_main_v1 (F := Ideal) ix0 := by
  pointwise [val_main_v3, val_main_v2]

theorem vis_at : val_main_v19 (F := Ideal) (ix2 q k) = BitVec.ofBool (decide (Vis k.val q.val)) := by
  have e : val_main_v19 (F := Ideal) (ix2 q k) = IntOp.andi
      (IntOp.cmpi .sle (val_main_v5 (F := Ideal) (ix1 k)) (val_main_v11 (F := Ideal) (ix1 q)))
      (IntOp.cmpi .sge (BitVec.ofNat 32 k.val) 112#32) := by
    pointwise [val_main_v19, val_main_v16, val_main_v14, val_main_v15, val_main_v12, val_main_v13, val_main_v18, val_main_v17,
      val_main_v7, val_main_v6, val_main_v4, val_main_c_1]
  rw [e, chunk_key, chunk_query]
  show IntOp.andi (IntOp.cmpi .sle (chunkWord (BitVec.ofNat 32 k.val)) (chunkWord (IntOp.addi 0#32 (BitVec.ofNat 32 q.val)))) _ = _
  rw [show IntOp.addi 0#32 (BitVec.ofNat 32 q.val) = BitVec.ofNat 32 q.val from BitVec.zero_add _, chunkWord_key, chunkWord_key,
    le_word (by omega) (by omega), ge_word (by omega) (by omega)]
  by_cases h1 : 112 ≤ k.val <;> by_cases h2 : k.val / 64 ≤ q.val / 64 <;> simp [Vis, IntOp.andi, h1, h2]

theorem score_at : val_main_v24 (F := Ideal) x0 x1 (ix4 b h q k) = if Vis k.val q.val then
    (∑ d, val_main_v3 (F := Ideal) x0 (ix4 b q h d) * x1 (ix4 b k h d)) * (scale : EReal) else ⊥ := by
  have e : val_main_v24 (F := Ideal) x0 x1 (ix4 b h q k) = Scalar.select (val_main_v19 (F := Ideal) (ix2 q k))
      ((∑ d, val_main_v3 (F := Ideal) x0 (ix4 b q h d) * x1 (ix4 b k h d)) * Ideal.ofBits .f32 0x3D93CD3A#32)
      (Ideal.ofBits .f32 0xFF800000#32) := by
    pointwise [val_main_v24, val_main_call2_v1, val_main_v23, val_main_v22, val_main_v20, val_main_v21, val_main_call2_v2,
      val_main_call2_v0, val_main_cst_5, val_main_cst_4]
    rfl
  rw [e, vis_at, select_bool, scale_word, bot_word]

theorem top_at : val_main_v25 (F := Ideal) x0 x1 (ix3 b h q)
    = Finset.univ.fold max ⊥ fun j : Fin 2176 => val_main_v24 (F := Ideal) x0 x1 (ix4 b h q j) := by
  unfold val_main_v25
  generalize val_main_v24 (F := Ideal) x0 x1 = y
  clean_types
  pointwise [val_main_cst_6]
  rw [bot_word]

theorem expo_at : val_main_v29 (F := Ideal) x0 x1 (ix4 b h q k) = Ideal.exp
    (val_main_v24 (F := Ideal) x0 x1 (ix4 b h q k) - val_main_v25 (F := Ideal) x0 x1 (ix3 b h q)) := by
  unfold val_main_v29 val_main_v28 val_main_v27 val_main_v26
  generalize val_main_v25 (F := Ideal) x0 x1 = y
  generalize val_main_v24 (F := Ideal) x0 x1 = z
  pointwise

theorem total_at : val_main_v30 (F := Ideal) x0 x1 (ix3 b h q) = ∑ j, val_main_v29 (F := Ideal) x0 x1 (ix4 b h q j) := by
  unfold val_main_v30
  generalize val_main_v29 (F := Ideal) x0 x1 = y
  pointwise [val_main_cst_7]

/-- A row of the output, -/
theorem out_at (R : Fin 8704) (C : Fin 1024) : val_main_v44 (F := Ideal) x0 x1 x2 (ix2 R C)
    = Ideal.div (∑ j, x2 (ix4 ⟨R.val / 2176, by omega⟩ j ⟨C.val / 128, by omega⟩ ⟨C.val % 128, by omega⟩)
        * val_main_v29 (F := Ideal) x0 x1 (ix4 ⟨R.val / 2176, by omega⟩ ⟨C.val / 128, by omega⟩ ⟨R.val % 2176, by omega⟩ j))
      (val_main_v30 (F := Ideal) x0 x1 (ix3 ⟨R.val / 2176, by omega⟩ ⟨C.val / 128, by omega⟩ ⟨R.val % 2176, by omega⟩)) := by
  unfold val_main_v44 val_main_v36 val_main_v35 val_main_v34 val_main_v33 val_main_v32 val_main_v31
  generalize val_main_v30 (F := Ideal) x0 x1 = l
  generalize val_main_v29 (F := Ideal) x0 x1 = e
  pointwise

theorem lane_at (R : Fin 8704) (C : Fin 1024) : val_main_v45 (F := Ideal) x0 x1 (ix2 R C)
    = val_main_v41 (F := Ideal) x0 x1 (ix4 ⟨R.val / 2176, by omega⟩ ⟨C.val / 128, by omega⟩ ⟨R.val % 2176, by omega⟩ 0) := by
  unfold val_main_v45 val_main_v43 val_main_v42
  generalize val_main_v41 (F := Ideal) x0 x1 = y
  pointwise

/-- of the logarithms. -/
theorem log_at : val_main_v41 (F := Ideal) x0 x1 (ix4 b h q 0)
    = Ideal.div (val_main_v25 (F := Ideal) x0 x1 (ix3 b h q) + Ideal.log (val_main_v30 (F := Ideal) x0 x1 (ix3 b h q)))
      (Ideal.log (Ideal.ofBits .f32 0x40000000#32)) := by
  rw [val_main_v41_apply, val_main_v38_apply, val_main_v37_apply, val_main_v26_apply, val_main_v31_apply, val_main_v40_apply,
    val_main_v39_apply, val_main_cst_8_apply]
  rw [show idx_main_v26 (ix4 b h q 0) = ix3 b h q from
    funext fun a => match a with | ⟨0, _⟩ => rfl | ⟨1, _⟩ => rfl | ⟨2, _⟩ => rfl]
  rw [show idx_main_v31 (ix4 b h q 0) = ix3 b h q from
    funext fun a => match a with | ⟨0, _⟩ => rfl | ⟨1, _⟩ => rfl | ⟨2, _⟩ => rfl]
  generalize val_main_v30 (F := Ideal) x0 x1 = l
  generalize val_main_v25 (F := Ideal) x0 x1 = y
  rfl

/-- The score is that of the incoming query, times `log 2`. -/
theorem score_eq : val_main_v24 (F := Ideal) x0 x1 (ix4 b h q k)
    = (if Vis k.val q.val then ∑ d, x0 (ix4 b q h d) * x1 (ix4 b k h d) else ⊥) * ((Real.log 2 : ℝ) : EReal) := by
  rw [score_at]
  split
  · have hu : 0 ≤ Real.log 2 / scale := (div_pos Softmax.log_two_pos scale_pos).le
    have e : ∑ d, val_main_v3 (F := Ideal) x0 (ix4 b q h d) * x1 (ix4 b k h d)
        = (∑ d, x0 (ix4 b q h d) * x1 (ix4 b k h d)) * ((Real.log 2 / scale : ℝ) : EReal) := by
      rw [← Softmax.sum_scale _ _ hu]
      exact Finset.sum_congr rfl fun d _ => by rw [query_at, unit_at, mul_right_comm]
    rw [e, mul_assoc, ← EReal.coe_mul, div_mul_cancel₀ _ scale_pos.ne']
  · rw [EReal.bot_mul_coe_of_pos Softmax.log_two_pos]

end Whole

end
-- ==== Proof.Attend.lean ====
/- The forward attention kernel's output and logarithms are the reference's. -/
module

public import proofs.«01_k».proof.Proof.Fold
public import proofs.«01_k».proof.Proof.Softmax
public import proofs.«01_k».proof.Proof.Whole
public import proofs.«01_k».proof.Proof.Results
public import proofs.«01_k».proof.Proof.Gen.AttendIdeal.Value
public import proofs.«01_k».proof.Proof.Gen.AttendMathIdeal.Run

@[expose] public section

set_option maxRecDepth 16384

noncomputable section

namespace Attend

open Cert.AttendIdeal Cert.AttendIdeal.Gen Idealize.ShloMosaic Idealize.ShloMosaic.TcCoe Idealize.SL.Sem Operand Rows Tile
open Cert.AttendMathIdeal.Read (val_main_v24 val_main_v25 val_main_v29 val_main_v30 val_main_v41 val_main_v44 val_main_v45)

section
variable (y0 y1 : (Arr 2176 256).Idx → EReal) (y2 : (Arr 2176 128).Idx → EReal) (x0 x1 : Rows192) (x2 : Rows128)
variable (b : Fin 4) (h : Fin 8)

/-- The blocks hold the rows of head `h` of example `b`. -/
structure Holds : Prop where
  q : ∀ (n : Fin 2176) (d : Fin 192), row y0 n.val (Block.lane d) = x0 (ix4 b n h d)
  qpad : ∀ (n : ℕ) (d : Fin 256), 192 ≤ d.val → row y0 n d = 0
  k : ∀ (n : Fin 2176) (d : Fin 192), row y1 n.val (Block.lane d) = x1 (ix4 b n h d)
  v : ∀ (n : Fin 2176) (d : Fin 128), row y2 n.val d = x2 (ix4 b n h d)

variable {y0 y1 y2 x0 x1 x2 b h} (H : Holds y0 y1 y2 x0 x1 x2 b h)
include H

theorem score_eq (q k : Fin 2176) :
    val_main_v24 (F := Ideal) x0 x1 (ix4 b h q k) = Fold.score y0 y1 q.val k.val * ((Real.log 2 : ℝ) : EReal) := by
  rw [Whole.score_eq, Fold.score, Block.sum_lanes _ fun d hd => by rw [H.qpad _ _ hd, zero_mul]]
  simp only [H.q, H.k]

theorem out_eq (q : Fin 2176) (d : Fin 128) : Fold.outRow y0 y1 y2 q.val d
    = Ideal.div (∑ j, x2 (ix4 b j h d) * val_main_v29 (F := Ideal) x0 x1 (ix4 b h q j)) (val_main_v30 (F := Ideal) x0 x1 (ix3 b h q)) := by
  rw [Fold.outRow, ← Fold.mixed_first, ← Fold.mass_first, Whole.total_at]
  simp only [Fold.weight, H.v, Whole.expo_at]
  exact Softmax.mean_eq (v := fun k => x2 (ix4 b k h d)) (score_eq H q)
    (Fold.peak_first y0 y1 q.val 2176).symm (Whole.top_at x0 x1 b h q)

theorem log_eq (q : Fin 2176) (d : Fin 128) : Fold.logRow y0 y1 q.val d = val_main_v41 (F := Ideal) x0 x1 (ix4 b h q 0) := by
  rw [Fold.logRow, ← Fold.mass_first, Whole.log_at, Whole.total_at, Ref.log_two_word]
  simp only [Fold.weight, Whole.expo_at]
  exact Softmax.log_eq (score_eq H q)
    (Fold.peak_first y0 y1 q.val 2176).symm (Whole.top_at x0 x1 b h q)

end

variable (m : (ℓ : Loc nD τ sig) → Buf (Elt Ideal) ℓ) (c : Dev nD) (t : Fin cfg0.N)

/-- The three inputs, by their shapes. -/
abbrev a0 : Rows192 := m ((c : Thread nD τ).loc main_arg0)
abbrev a1 : Rows192 := m ((c : Thread nD τ).loc main_arg1)
abbrev a2 : Rows128 := m ((c : Thread nD τ).loc main_arg2)

theorem v4_eq : V m c main_v4 = lanes (a0 m c) := by
  unfold V
  after_reads_simp
  simp -implicitDefEqProofs only [StableHlo.TRef.toBuf, StableHlo.TRef.ofBuf, cast_cast, cast_eq]
  rfl

theorem v7_eq : V m c main_v7 = lanes (a1 m c) := by
  unfold V
  after_reads_simp
  simp -implicitDefEqProofs only [StableHlo.TRef.toBuf, StableHlo.TRef.ofBuf, cast_cast, cast_eq]
  rfl

theorem v1_eq : V m c main_v1 = flat (a2 m c) := by
  unfold V
  after_reads_simp
  rfl

/-- The example and the head of a grid point. -/
def exOf : Fin 4 := grid0.coords t 0
def headOf : Fin 8 := grid0.coords t 1

theorem places : ∀ t : Fin cfg0.N, win0_0.index t = ![(exOf t).val, (headOf t).val] ∧ win0_1.index t = ![(exOf t).val, (headOf t).val]
    ∧ win0_2.index t = ![(exOf t).val, (headOf t).val] ∧ win0_3.index t = ![(exOf t).val, (headOf t).val]
    ∧ win0_4.index t = ![(exOf t).val, (headOf t).val] :=
  (by decide +kernel : ∀ t : Fin grid0.N, _)

/-- Row `n` of the example and lane `d` of the head, in the arrays. -/
def rowAt (n : Fin 2176) : Fin 8704 := ⟨(exOf t).val * 2176 + n.val, by omega⟩
def laneAt (d : Fin 256) : Fin 2048 := ⟨(headOf t).val * 256 + d.val, by omega⟩
def laneAt' (d : Fin 128) : Fin 1024 := ⟨(headOf t).val * 128 + d.val, by omega⟩

theorem q_at (n : Fin 2176) (d : Fin 256) : iblk m c 0 t (ix2 n d) = lanes (a0 m c) (ix2 (rowAt t n) (laneAt t d)) := by
  have e : (win0_0.blk t).view.emb (ix2 n d) = ix2 (rowAt t n) (laneAt t d) := by
    unfold rowAt laneAt
    blk_ext [places t]
  blk_simp [iblk]
  exact (congrFun (v4_eq m c) _).trans (congrArg _ e)

theorem k_at (n : Fin 2176) (d : Fin 256) : iblk m c 1 t (ix2 n d) = lanes (a1 m c) (ix2 (rowAt t n) (laneAt t d)) := by
  have e : (win0_1.blk t).view.emb (ix2 n d) = ix2 (rowAt t n) (laneAt t d) := by
    unfold rowAt laneAt
    blk_ext [places t]
  blk_simp [iblk]
  exact (congrFun (v7_eq m c) _).trans (congrArg _ e)

theorem v_at (n : Fin 2176) (d : Fin 128) : iblk m c 2 t (ix2 n d) = flat (a2 m c) (ix2 (rowAt t n) (laneAt' t d)) := by
  have e : (win0_2.blk t).view.emb (ix2 n d) = ix2 (rowAt t n) (laneAt' t d) := by
    unfold rowAt laneAt'
    blk_ext [places t]
  blk_simp [iblk]
  exact (congrFun (v1_eq m c) _).trans (congrArg _ e)

variable {m}

theorem holds : Holds (iblk m c 0 t) (iblk m c 1 t) (iblk m c 2 t) (a0 m c) (a1 m c) (a2 m c) (exOf t) (headOf t) := by
  refine ⟨fun n d => ?_, fun n d hd => ?_, fun n d => ?_, fun n d => ?_⟩
  · rw [row_lt, q_at, Place.lanes_in (R := rowAt t n) rfl (C := laneAt t (Block.lane d)) rfl _ d.isLt]
  · exact Final.row_cases _ _ _ _ (fun r _ => by rw [q_at, Place.lanes_pad (C := laneAt t d) rfl _ hd]) fun _ => rfl
  · rw [row_lt, k_at, Place.lanes_in (R := rowAt t n) rfl (C := laneAt t (Block.lane d)) rfl _ d.isLt]
  · rw [row_lt, v_at, Place.flat_in (R := rowAt t n) rfl (C := laneAt' t d) rfl]

theorem left_out (n : Fin 2176) (d : Fin 128) :
    (outsAt0 m c t).1 (ix2 n d) = Fold.outRow (iblk m c 0 t) (iblk m c 1 t) (iblk m c 2 t) n.val d := by
  rw [outsAt0]
  dsimp only
  exact Fold.out_rows c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) n d

theorem left_log (n : Fin 2176) (d : Fin 128) :
    (outsAt0 m c t).2 (ix2 n d) = Fold.logRow (iblk m c 0 t) (iblk m c 1 t) n.val d := by
  rw [outsAt0]
  dsimp only
  exact Fold.log_rows c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) n d

theorem out_equal :
    (dats m 0 c).arrAt 3 cfg0.N = val_main_v44 (F := Ideal) (a0 m c) (a1 m c) (a2 m c) := by
  refine (dats m 0 c).arrAt_eq_of_covers 3 _ (by decide +kernel) fun t _ y => ?_
  blk_simp
  rw [after0_3]
  obtain ⟨n, d, rfl⟩ : ∃ (n : Fin 2176) (d : Fin 128), y = ix2 n d := ⟨y 0, y 1, funext fun a => match a with | ⟨0, _⟩ => rfl | ⟨1, _⟩ => rfl⟩
  have e : (win0_3.blk t).view.emb (ix2 n d) = ix2 (rowAt t n) (laneAt' t d) := by
    unfold rowAt laneAt'
    blk_ext [places t]
  refine (left_out c t n d).trans ((out_eq (holds c t) n d).trans ?_)
  refine Eq.trans ?_ ((congrArg _ e).trans (Whole.out_at _ _ _ (rowAt t n) (laneAt' t d))).symm
  simp only [Place.example_eq (R := rowAt t n) rfl, Place.row_eq (R := rowAt t n) rfl, Place.head_eq' (C := laneAt' t d) rfl,
    Place.lane_eq' (C := laneAt' t d) rfl]

theorem log_equal :
    (dats m 0 c).arrAt 4 cfg0.N = val_main_v45 (F := Ideal) (a0 m c) (a1 m c) := by
  refine (dats m 0 c).arrAt_eq_of_covers 4 _ (by decide +kernel) fun t _ y => ?_
  blk_simp
  rw [after0_4]
  obtain ⟨n, d, rfl⟩ : ∃ (n : Fin 2176) (d : Fin 128), y = ix2 n d := ⟨y 0, y 1, funext fun a => match a with | ⟨0, _⟩ => rfl | ⟨1, _⟩ => rfl⟩
  have e : (win0_4.blk t).view.emb (ix2 n d) = ix2 (rowAt t n) (laneAt' t d) := by
    unfold rowAt laneAt'
    blk_ext [places t]
  refine (left_log c t n d).trans ((log_eq (holds c t) n d).trans ?_)
  refine Eq.trans ?_ ((congrArg _ e).trans (Whole.lane_at _ _ (rowAt t n) (laneAt' t d))).symm
  simp only [Place.example_eq (R := rowAt t n) rfl, Place.row_eq (R := rowAt t n) rfl, Place.head_eq' (C := laneAt' t d) rfl]

/-- The two named constants stand for the words of the kernel. -/
theorem names_preserved : Cert.preserves_Attend_AttendIdeal :=
  ⟨IdealRules.named_const.statement Cert.AttendIdeal.κ "mask" .f32 0xF149F2CA#32 _ rfl,
    IdealRules.named_const.statement Cert.AttendIdeal.κ "ln2" .f32 0x3F317218#32 _ rfl⟩

/-- The reference runs and leaves its arguments and the semaphores as they were. -/
theorem frame_math : Cert.quiescent_AttendMathIdeal := fun m ρ _ =>
  (θ_run Cert.AttendMathIdeal.defs _ _).mono (fun r h => ⟨fun c => (h c).2.2, sem_eq_zero_of_no_sems (by decide) r.2⟩)
    (Cert.AttendMathIdeal.Value.run (F := Ideal) m ρ)

/-- The kernel's output and logarithms are the reference's. -/
theorem agree : Cert.algebraic_AttendIdeal_AttendMathIdeal := by
  intro m g m' g' _ ha
  refine ⟨fun c => val_main_v44 (F := Ideal) (a0 m c) (a1 m c) (a2 m c), fun c => val_main_v45 (F := Ideal) (a0 m c) (a1 m c), ?_, ?_⟩
  · exact (θ_run Cert.AttendIdeal.defs _ _).mono (fun r h c => ⟨(h c).1.trans (out_equal c), (h c).2.1.trans (log_equal c), (h c).2.2⟩)
      (Value.run_blocks (F := Ideal) m g)
  · refine (θ_run Cert.AttendMathIdeal.defs _ _).mono (fun r h c => ⟨(h c).1.trans ?_, (h c).2.1.trans ?_, (h c).2.2⟩)
      (Cert.AttendMathIdeal.Value.run (F := Ideal) m' g')
    all_goals obtain ⟨e0, e1, e2⟩ := ha c
    · rw [Cert.AttendMathIdeal.Read.val_main_v44_eq, e0, e1, e2]
    · rw [Cert.AttendMathIdeal.Read.val_main_v45_eq, e0, e1]

end Attend

end
-- ==== Proof.GateInput.lean ====
/- The gradient of the rows the gate reads, added to the one that came by the queries. -/
module

public import proofs.«01_k».proof.Defs
public import proofs.«01_k».proof.Proof.Gen.GateInputIdeal.Value
public import proofs.«01_k».proof.Proof.Gen.GateInputMathIdeal.Run
public import proofs.«01_k».proof.Proof.Gen.GateInputMathIdeal.Read
public import Idealize.ShloMosaic.Lib.Pointwise
public import Idealize.ShloMosaic.Lib.Pipeline.ValueKit
public import Idealize.ShloMosaic.Adequacy
public import Idealize.ShloMosaic.Lib.StableHlo.ReadAt

@[expose] public section

set_option maxRecDepth 16384

noncomputable section

namespace GateInput

open Cert.GateInputIdeal Cert.GateInputIdeal.Gen Idealize.ShloMosaic Idealize.ShloMosaic.TcCoe Idealize.SL.Sem

variable (m : (ℓ : Loc nD τ sig) → Buf (Elt Ideal) ℓ) (c : Dev nD)

/-- The gradient of the gate, the weight and the gradient that came by the queries, by their shapes. -/
abbrev grad : FVec Ideal S8704x1024 .f32 := m ((c : Thread nD τ).loc main_arg0)
abbrev weight : FVec Ideal S1024x1024 .f32 := m ((c : Thread nD τ).loc main_arg1)
abbrev other : FVec Ideal S8704x1024 .f32 := m ((c : Thread nD τ).loc main_arg2)

theorem v0_eq : V m c main_v0 = truncf .bf16 (grad m c) bitsLt_bf16_f32 := by
  unfold V; after_reads_simp
theorem v1_eq : V m c main_v1 = truncf .bf16 (weight m c) bitsLt_bf16_f32 := by
  unfold V; after_reads_simp
theorem arg2_eq : V m c main_arg2 = other m c := by
  unfold V; after_reads_simp

theorem places : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (t : Fin cfg0.N)

theorem lt8 : t.val < 8 := t.isLt

/-- Row `n` of the block, in the arrays. -/
def rowAt (n : Fin 1088) : Fin 8704 := ⟨t.val * 1088 + n.val, by have := lt8 t; omega⟩

theorem grad_at (n : Fin 1088) (k : Fin 1024) : iblk m c 0 t (ix2 n k) = grad m c (ix2 (rowAt t n) k) := by
  have e : (win0_0.blk t).view.emb (ix2 n k) = ix2 (rowAt t n) k := by
    unfold rowAt
    blk_ext [places t]
  blk_simp [iblk]
  exact (congrFun (v0_eq m c) _).trans (congrArg _ e)

theorem weight_at (k l : Fin 1024) : iblk m c 1 t (ix2 k l) = weight m c (ix2 k l) := by
  have e : (win0_1.blk t).view.emb (ix2 k l) = ix2 k l := by
    blk_ext [places t]
  blk_simp [iblk]
  exact (congrFun (v1_eq m c) _).trans (congrArg _ e)

theorem other_at (n : Fin 1088) (l : Fin 1024) : iblk m c 2 t (ix2 n l) = other m c (ix2 (rowAt t n) l) := by
  have e : (win0_2.blk t).view.emb (ix2 n l) = ix2 (rowAt t n) l := by
    unfold rowAt
    blk_ext [places t]
  blk_simp [iblk]
  exact (congrFun (arg2_eq m c) _).trans (congrArg _ e)

theorem block_at (x0 : Vec Ideal S1088x1024 .bf16) (x1 : Vec Ideal S1024x1024 .bf16) (x2 : Vec Ideal S1088x1024 .f32) (n : Fin 1088) (l : Fin 1024) :
    out0_3 x0 x1 x2 (ix2 n l) = ∑ k : Fin 1024, x0 (ix2 n k) * x1 (ix2 k l) + x2 (ix2 n l) := by
  unfold out0_3
  frame_out
  unfold_payloads
  pointwise

/-- The reference's entry. -/
theorem math_at (x0 : FVec Ideal S8704x1024 .f32) (x1 : FVec Ideal S1024x1024 .f32) (x2 : FVec Ideal S8704x1024 .f32) (r : Fin 8704) (l : Fin 1024) :
    Cert.GateInputMathIdeal.Read.val_main_v5 (F := Ideal) x0 x1 x2 (ix2 r l) = x2 (ix2 r l) + ∑ k : Fin 1024, x0 (ix2 r k) * x1 (ix2 k l) := by
  pointwise [Cert.GateInputMathIdeal.Read.val_main_v5, Cert.GateInputMathIdeal.Read.val_main_v4, Cert.GateInputMathIdeal.Read.val_main_v3,
    Cert.GateInputMathIdeal.Read.val_main_v1]

/-- The array the kernel leaves is the reference's. -/
theorem equal : (dats m 0 c).arrAt 3 cfg0.N = Cert.GateInputMathIdeal.Read.val_main_v5 (F := Ideal) (grad m c) (weight m c) (other m c) := by
  refine (dats m 0 c).arrAt_eq_of_covers 3 _ (by decide +kernel) fun t _ y => ?_
  blk_simp
  rw [after0_3]
  obtain ⟨n, l, rfl⟩ : ∃ (n : Fin 1088) (l : Fin 1024), y = ix2 n l := ⟨y 0, y 1, by ext a; fin_cases a <;> rfl⟩
  have e : (win0_3.blk t).view.emb (ix2 n l) = ix2 (rowAt t n) l := by
    unfold rowAt
    blk_ext [places t]
  refine (block_at _ _ _ n l).trans ((add_comm _ _).trans ?_)
  refine Eq.trans ?_ ((congrArg _ e).trans (math_at _ _ _ (rowAt t n) l)).symm
  exact congrArg₂ _ (other_at m c t n l) (Finset.sum_congr rfl fun k _ => congrArg₂ _ (grad_at m c t n k) (weight_at m c t k l))

/-- The reference runs and leaves its arguments and the semaphores as they were. -/
theorem frame_math : Cert.quiescent_GateInputMathIdeal := fun m ρ _ =>
  (θ_run Cert.GateInputMathIdeal.defs _ _).mono (fun r h => ⟨fun c => (h c).2, sem_eq_zero_of_no_sems (by decide) r.2⟩)
    (Cert.GateInputMathIdeal.Value.run (F := Ideal) m ρ)

/-- The kernel's result is the reference's. -/
theorem agree : Cert.algebraic_GateInputIdeal_GateInputMathIdeal := by
  intro m g m' g' _ ha
  refine ⟨fun c => Cert.GateInputMathIdeal.Read.val_main_v5 (F := Ideal) (grad m c) (weight m c) (other m c), ?_, ?_⟩
  · exact (θ_run Cert.GateInputIdeal.defs _ _).mono (fun r h c => ⟨(h c).1.trans (equal m c), (h c).2⟩) (Value.run_blocks (F := Ideal) m g)
  · refine (θ_run Cert.GateInputMathIdeal.defs _ _).mono (fun r h c => ⟨(h c).1.trans ?_, (h c).2⟩) (Cert.GateInputMathIdeal.Value.run (F := Ideal) m' g')
    obtain ⟨e0, e1, e2⟩ := ha c
    rw [Cert.GateInputMathIdeal.Read.val_main_v5_eq, e0, e1, e2]

end GateInput

end
-- ==== Proof.OutWeight.lean ====
/- The gradient of an output projection's weight: what the accumulator holds, and the array at the end. -/
module

public import proofs.«01_k».proof.Defs
public import proofs.«01_k».proof.Proof.Panels
public import proofs.«01_k».proof.Proof.Gen.OutWeightIdeal.Value
public import proofs.«01_k».proof.Proof.Gen.OutWeightMathIdeal.Run
public import proofs.«01_k».proof.Proof.Gen.OutWeightMathIdeal.Read
public import Idealize.ShloMosaic.Lib.Pipeline.ValueKit
public import Idealize.ShloMosaic.Adequacy
public import Idealize.ShloMosaic.Lib.StableHlo.ReadAt

@[expose] public section

set_option maxRecDepth 16384

noncomputable section

namespace OutWeight

open Cert.OutWeightIdeal Cert.OutWeightIdeal.Gen Idealize.ShloMosaic Idealize.ShloMosaic.TcCoe Idealize.SL.Sem Panels

variable (m : (ℓ : Loc nD τ sig) → Buf (Elt Ideal) ℓ) (c : Dev nD)

/-- The rows the projection reads and its gradient, by their shapes. -/
abbrev rows : FVec Ideal S8704x1024 .f32 := m ((c : Thread nD τ).loc main_arg0)
abbrev grad : FVec Ideal S8704x1024 .f32 := m ((c : Thread nD τ).loc main_arg1)

theorem v0_eq : V m c main_v0 = truncf .bf16 (rows m c) bitsLt_bf16_f32 := by
  unfold V; after_reads_simp
theorem arg1_eq : V m c main_arg1 = grad m c := by
  unfold V; after_reads_simp

theorem places : ∀ t : Fin cfg0.N, win0_0.index t = ![t.val, 0] ∧ win0_1.index t = ![t.val, 0] :=
  (by decide +kernel : ∀ t : Fin grid0.N, _)

variable (t : Fin cfg0.N)

theorem lt17 : t.val < 17 := lt_of_lt_of_eq t.isLt N_0

theorem rows_at (k : Fin 512) (j : Fin 1024) : iblk m c 0 t (ix2 k j) = cell (fun r l => rows m c (ix2 r l)) (512 * t.val + k.val) j.val := by
  have h := lt17 t
  have e : (win0_0.blk t).view.emb (ix2 k j) = ix2 (⟨512 * t.val + k.val, by omega⟩ : Fin 8704) j := by
    blk_ext [places t]
  blk_simp [iblk]
  rw [cell_eq _ (by omega) (by omega)]
  exact (congrFun (v0_eq m c) _).trans (congrArg _ e)

theorem grad_at (k : Fin 512) (j : Fin 1024) : iblk m c 1 t (ix2 k j) = cell (fun r l => grad m c (ix2 r l)) (512 * t.val + k.val) j.val := by
  have h := lt17 t
  have e : (win0_1.blk t).view.emb (ix2 k j) = ix2 (⟨512 * t.val + k.val, by omega⟩ : Fin 8704) j := by
    blk_ext [places t]
  blk_simp [iblk]
  rw [cell_eq _ (by omega) (by omega)]
  exact (congrFun (arg1_eq m c) _).trans (congrArg _ e)

variable (i : grid0.Coords) (arg3 : Memref sig .tc .vmem S512x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .f32) (harg6 : arg6.IsWhole)
  (x0 : Vec Ideal S512x1024 .bf16) (x1 : Vec Ideal S512x1024 .f32) (s : Vec Ideal S1024x1024 .f32) (a b : Fin 1024)

theorem reset (h0 : cond0_0 i) (h1 : ¬cond0_1 i) :
    sout0_A_0 c i arg3 harg3 arg4 harg4 arg5 harg5 arg6 harg6 h0 h1 x0 x1 (ix2 a b) = ∑ k : Fin 512, x0 (ix2 k a) * x1 (ix2 k b) := by
  unfold sout0_A_0
  frame_out
  unfold_payloads
  pointwise

theorem step (h0 : ¬cond0_0 i) (h1 : ¬cond0_1 i) :
    sout0_B_0 c i arg3 harg3 arg4 harg4 arg5 harg5 arg6 harg6 h0 h1 x0 x1 s (ix2 a b)
      = s (ix2 a b) + ∑ k : Fin 512, x0 (ix2 k a) * x1 (ix2 k b) := by
  unfold sout0_B_0
  frame_out
  unfold_payloads
  pointwise

theorem lastHeld (h0 : ¬cond0_0 i) (h1 : cond0_1 i) :
    sout0_C_0 c i arg3 harg3 arg4 harg4 arg5 harg5 arg6 harg6 h0 h1 x0 x1 s (ix2 a b)
      = s (ix2 a b) + ∑ k : Fin 512, x0 (ix2 k a) * x1 (ix2 k b) := by
  unfold sout0_C_0
  frame_out
  unfold_payloads
  pointwise

theorem last (h0 : ¬cond0_0 i) (h1 : cond0_1 i) :
    out0_C_2 c i arg3 harg3 arg4 harg4 arg5 harg5 arg6 harg6 h0 h1 x0 x1 s (ix2 a b)
      = s (ix2 a b) + ∑ k : Fin 512, x0 (ix2 k a) * x1 (ix2 k b) := by
  unfold out0_C_2
  frame_out
  unfold_payloads
  pointwise

/-- One term of the entry. -/
def term (k : ℕ) : EReal := cell (fun r l => rows m c (ix2 r l)) k a.val * cell (fun r l => grad m c (ix2 r l)) k b.val

theorem panel (e0 : x0 = iblk m c 0 t) (e1 : x1 = iblk m c 1 t) :
    ∑ k : Fin 512, x0 (ix2 k a) * x1 (ix2 k b) = ∑ k : Fin 512, term m c a b (512 * t.val + k.val) := by
  subst e0 e1
  exact Finset.sum_congr rfl fun k _ => congrArg₂ _ (rows_at m c t k a) (grad_at m c t k b)

/-- What the accumulator holds after a point: the sum over the panels of rows so far. -/
theorem held : ∀ n h, (outsAt0 m c n h).2 (ix2 a b) = ∑ k ∈ Finset.range (512 * (n + 1)), term m c a b k := by
  refine once (fun n h => (outsAt0 m c n h).2 (ix2 a b)) (term m c a b) ?_ ?_
  · intro h
    have A := outsAt0_A m c ⟨0, h⟩ rfl (by show ¬ 0 % 17 = 16; decide)
    dsimp only at A ⊢
    rw [A]
    dsimp only
    rw [reset]
    exact panel m c ⟨0, h⟩ _ _ a b rfl rfl
  · intro n h
    have l := lt17 ⟨n + 1, h⟩
    have e : ¬ (n + 1) % 17 = 0 := by dsimp only at l; omega
    by_cases f : (n + 1) % 17 = 16
    · have A := outsAt0_C m c ⟨n + 1, h⟩ e f
      dsimp only at A ⊢
      rw [A]
      dsimp only
      rw [lastHeld]
      exact congrArg₂ _ rfl (panel m c ⟨n + 1, h⟩ _ _ a b rfl rfl)
    · have A := outsAt0_B m c ⟨n + 1, h⟩ e f
      dsimp only at A ⊢
      rw [A]
      dsimp only
      rw [step]
      exact congrArg₂ _ rfl (panel m c ⟨n + 1, h⟩ _ _ a b rfl rfl)

theorem written (h : 16 < cfg0.N) : (outsAt0 m c 16 h).1 (ix2 a b) = ∑ k ∈ Finset.range 8704, term m c a b k := by
  have e := held m c a b 16 h
  have A := outsAt0_C m c ⟨16, h⟩ (by show ¬ 16 % 17 = 0; decide) rfl
  dsimp only at A
  rw [A] at e ⊢
  dsimp only at e ⊢
  rw [last, ← lastHeld]
  exact e

/-- The reference's entry. -/
theorem math_at (x0 x1 : FVec Ideal S8704x1024 .f32) : Cert.OutWeightMathIdeal.Read.val_main_v4 (F := Ideal) x0 x1 (ix2 a b)
    = ∑ k : Fin 8704, x1 (ix2 k b) * x0 (ix2 k a) := by
  pointwise [Cert.OutWeightMathIdeal.Read.val_main_v4, Cert.OutWeightMathIdeal.Read.val_main_v3, Cert.OutWeightMathIdeal.Read.val_main_v2]

/-- The array the kernel leaves is the reference's. -/
theorem equal : Value.G2 m c = Cert.OutWeightMathIdeal.Read.val_main_v4 (F := Ideal) (rows m c) (grad m c) := by
  funext y
  obtain ⟨r, l, rfl⟩ : ∃ r l : Fin 1024, y = ix2 r l := ⟨y 0, y 1, by ext a; fin_cases a <;> rfl⟩
  refine Eq.trans ?_ (math_at r l _ _).symm
  have hp : Value.pt2Of (ix2 r l) = 16 := by
    show 17 * (1 * (r.val / 1024 - 0) + 1 * (l.val / 1024 - 0)) + 16 = _
    omega
  have hN : Value.pt2Of (ix2 r l) < cfg0.N := by rw [hp, show cfg0.N = 17 from N_0]; omega
  have hl : Value.loc2Of (ix2 r l) = ix2 r l := by
    funext x
    fin_cases x
    · exact Fin.ext (Nat.mod_eq_of_lt r.isLt)
    · exact Fin.ext (Nat.mod_eq_of_lt l.isLt)
  unfold Value.G2
  rw [dif_pos hN, ← Value.outsAt0_sweep m c _ hN, hl]
  have q : ∀ n (h : n < cfg0.N), n = 16 → (outsAt0 m c n h).1 (ix2 r l) = ∑ k ∈ Finset.range 8704, term m c r l k := by
    rintro _ h rfl
    exact written m c r l h
  have w := q _ hN hp
  rw [Finset.sum_range] at w
  refine w.trans (Finset.sum_congr rfl fun k _ => ?_)
  unfold term
  rw [cell_eq _ k.isLt r.isLt, cell_eq _ k.isLt l.isLt]
  exact mul_comm _ _

/-- The reference runs and leaves its arguments and the semaphores as they were. -/
theorem frame_math : Cert.quiescent_OutWeightMathIdeal := fun m ρ _ =>
  (θ_run Cert.OutWeightMathIdeal.defs _ _).mono (fun r h => ⟨fun c => (h c).2, sem_eq_zero_of_no_sems (by decide) r.2⟩)
    (Cert.OutWeightMathIdeal.Value.run (F := Ideal) m ρ)

/-- The kernel's result is the reference's. -/
theorem agree : Cert.algebraic_OutWeightIdeal_OutWeightMathIdeal := by
  intro m g m' g' _ ha
  refine ⟨fun c => Cert.OutWeightMathIdeal.Read.val_main_v4 (F := Ideal) (rows m c) (grad m c), ?_, ?_⟩
  · exact (θ_run Cert.OutWeightIdeal.defs _ _).mono (fun r h c => ⟨(h c).1.trans (equal m c), (h c).2⟩) (Value.run (F := Ideal) m g)
  · refine (θ_run Cert.OutWeightMathIdeal.defs _ _).mono (fun r h c => ⟨(h c).1.trans ?_, (h c).2⟩) (Cert.OutWeightMathIdeal.Value.run (F := Ideal) m' g')
    obtain ⟨e0, e1⟩ := ha c
    rw [Cert.OutWeightMathIdeal.Read.val_main_v4_eq, e0, e1]

end OutWeight

end
-- ==== Proof.OutInput.lean ====
/- The gradient of the rows an output projection reads: one block of rows, and the array at the end. -/
module

public import proofs.«01_k».proof.Defs
public import proofs.«01_k».proof.Proof.Gen.OutInputIdeal.Value
public import proofs.«01_k».proof.Proof.Gen.OutInputMathIdeal.Run
public import proofs.«01_k».proof.Proof.Gen.OutInputMathIdeal.Read
public import Idealize.ShloMosaic.Lib.Pointwise
public import Idealize.ShloMosaic.Lib.Pipeline.ValueKit
public import Idealize.ShloMosaic.Adequacy
public import Idealize.ShloMosaic.Lib.StableHlo.ReadAt

@[expose] public section

set_option maxRecDepth 16384

noncomputable section

namespace OutInput

open Cert.OutInputIdeal Cert.OutInputIdeal.Gen Idealize.ShloMosaic Idealize.ShloMosaic.TcCoe Idealize.SL.Sem

variable (m : (ℓ : Loc nD τ sig) → Buf (Elt Ideal) ℓ) (c : Dev nD)

/-- The gradient of the projection and the weight, by their shapes. -/
abbrev grad : FVec Ideal S8704x1024 .f32 := m ((c : Thread nD τ).loc main_arg0)
abbrev weight : FVec Ideal S1024x1024 .f32 := m ((c : Thread nD τ).loc main_arg1)

theorem arg0_eq : V m c main_arg0 = grad m c := by
  unfold V; after_reads_simp
theorem v0_eq : V m c main_v0 = truncf .bf16 (weight m c) bitsLt_bf16_f32 := by
  unfold V; after_reads_simp

theorem places : ∀ t : Fin cfg0.N, win0_0.index t = ![t.val, 0] ∧ win0_1.index t = ![0, 0] ∧ win0_2.index t = ![t.val, 0] :=
  (by decide +kernel : ∀ t : Fin grid0.N, _)

variable (t : Fin cfg0.N)

theorem lt4 : t.val < 4 := t.isLt

/-- Row `n` of the block, in the arrays. -/
def rowAt (n : Fin 2176) : Fin 8704 := ⟨t.val * 2176 + n.val, by have := lt4 t; omega⟩

theorem grad_at (n : Fin 2176) (k : Fin 1024) : iblk m c 0 t (ix2 n k) = grad m c (ix2 (rowAt t n) k) := by
  have e : (win0_0.blk t).view.emb (ix2 n k) = ix2 (rowAt t n) k := by
    unfold rowAt
    blk_ext [places t]
  blk_simp [iblk]
  exact (congrFun (arg0_eq m c) _).trans (congrArg _ e)

theorem weight_at (l k : Fin 1024) : iblk m c 1 t (ix2 l k) = weight m c (ix2 l k) := by
  have e : (win0_1.blk t).view.emb (ix2 l k) = ix2 l k := by
    blk_ext [places t]
  blk_simp [iblk]
  exact (congrFun (v0_eq m c) _).trans (congrArg _ e)

theorem block_at (x0 : Vec Ideal S2176x1024 .f32) (x1 : Vec Ideal S1024x1024 .bf16) (n : Fin 2176) (l : Fin 1024) :
    out0_2 x0 x1 (ix2 n l) = ∑ k : Fin 1024, x0 (ix2 n k) * x1 (ix2 l k) := by
  unfold out0_2
  frame_out
  unfold_payloads
  pointwise

/-- The reference's entry. -/
theorem math_at (x0 : FVec Ideal S8704x1024 .f32) (x1 : FVec Ideal S1024x1024 .f32) (r : Fin 8704) (l : Fin 1024) :
    Cert.OutInputMathIdeal.Read.val_main_v3 (F := Ideal) x0 x1 (ix2 r l) = ∑ k : Fin 1024, x0 (ix2 r k) * x1 (ix2 l k) := by
  pointwise [Cert.OutInputMathIdeal.Read.val_main_v3, Cert.OutInputMathIdeal.Read.val_main_v2]

/-- The array the kernel leaves is the reference's. -/
theorem equal : (dats m 0 c).arrAt 2 cfg0.N = Cert.OutInputMathIdeal.Read.val_main_v3 (F := Ideal) (grad m c) (weight m c) := by
  refine (dats m 0 c).arrAt_eq_of_covers 2 _ (by decide +kernel) fun t _ y => ?_
  blk_simp
  rw [after0_2]
  obtain ⟨n, l, rfl⟩ : ∃ (n : Fin 2176) (l : Fin 1024), y = ix2 n l := ⟨y 0, y 1, by ext a; fin_cases a <;> rfl⟩
  have e : (win0_2.blk t).view.emb (ix2 n l) = ix2 (rowAt t n) l := by
    unfold rowAt
    blk_ext [places t]
  refine (block_at _ _ n l).trans ?_
  refine Eq.trans ?_ ((congrArg _ e).trans (math_at _ _ (rowAt t n) l)).symm
  exact Finset.sum_congr rfl fun k _ => congrArg₂ _ (grad_at m c t n k) (weight_at m c t l k)

/-- The reference runs and leaves its arguments and the semaphores as they were. -/
theorem frame_math : Cert.quiescent_OutInputMathIdeal := fun m ρ _ =>
  (θ_run Cert.OutInputMathIdeal.defs _ _).mono (fun r h => ⟨fun c => (h c).2, sem_eq_zero_of_no_sems (by decide) r.2⟩)
    (Cert.OutInputMathIdeal.Value.run (F := Ideal) m ρ)

/-- The kernel's result is the reference's. -/
theorem agree : Cert.algebraic_OutInputIdeal_OutInputMathIdeal := by
  intro m g m' g' _ ha
  refine ⟨fun c => Cert.OutInputMathIdeal.Read.val_main_v3 (F := Ideal) (grad m c) (weight m c), ?_, ?_⟩
  · exact (θ_run Cert.OutInputIdeal.defs _ _).mono (fun r h c => ⟨(h c).1.trans (equal m c), (h c).2⟩) (Value.run_blocks (F := Ideal) m g)
  · refine (θ_run Cert.OutInputMathIdeal.defs _ _).mono (fun r h c => ⟨(h c).1.trans ?_, (h c).2⟩) (Cert.OutInputMathIdeal.Value.run (F := Ideal) m' g')
    obtain ⟨e0, e1⟩ := ha c
    rw [Cert.OutInputMathIdeal.Read.val_main_v3_eq, e0, e1]

end OutInput

end
-- ==== Proof.InForward.lean ====
/- The input projection itself: one block of rows, and the array at the end. -/
module

public import proofs.«01_k».proof.Defs
public import proofs.«01_k».proof.Proof.Gen.InForwardIdeal.Value
public import proofs.«01_k».proof.Proof.Gen.InForwardMathIdeal.Run
public import proofs.«01_k».proof.Proof.Gen.InForwardMathIdeal.Read
public import Idealize.ShloMosaic.Lib.Pointwise
public import Idealize.ShloMosaic.Lib.Pipeline.ValueKit
public import Idealize.ShloMosaic.Adequacy
public import Idealize.ShloMosaic.Lib.StableHlo.ReadAt

@[expose] public section

set_option maxRecDepth 16384

noncomputable section

namespace InForward

open Cert.InForwardIdeal Cert.InForwardIdeal.Gen Idealize.ShloMosaic Idealize.ShloMosaic.TcCoe Idealize.SL.Sem

variable (m : (ℓ : Loc nD τ sig) → Buf (Elt Ideal) ℓ) (c : Dev nD)

/-- The rows and the weight, by their shapes. -/
abbrev rows : FVec Ideal S8704x1024 .f32 := m ((c : Thread nD τ).loc main_arg0)
abbrev weight : FVec Ideal S3072x1024 .f32 := m ((c : Thread nD τ).loc main_arg1)

theorem v0_eq : V m c main_v0 = truncf .bf16 (rows m c) bitsLt_bf16_f32 := by
  unfold V; after_reads_simp
theorem v1_eq : V m c main_v1 = truncf .bf16 (weight m c) bitsLt_bf16_f32 := by
  unfold V; after_reads_simp

theorem places : ∀ t : Fin cfg0.N, win0_0.index t = ![t.val, 0] ∧ win0_1.index t = ![0, 0] ∧ win0_2.index t = ![t.val, 0] :=
  (by decide +kernel : ∀ t : Fin grid0.N, _)

variable (t : Fin cfg0.N)

theorem lt17 : t.val < 17 := t.isLt

/-- Row `n` of the block, in the arrays. -/
def rowAt (n : Fin 512) : Fin 8704 := ⟨t.val * 512 + n.val, by have := lt17 t; omega⟩

theorem rows_at (n : Fin 512) (k : Fin 1024) : iblk m c 0 t (ix2 n k) = rows m c (ix2 (rowAt t n) k) := by
  have e : (win0_0.blk t).view.emb (ix2 n k) = ix2 (rowAt t n) k := by
    unfold rowAt
    blk_ext [places t]
  blk_simp [iblk]
  exact (congrFun (v0_eq m c) _).trans (congrArg _ e)

theorem weight_at (l : Fin 3072) (k : Fin 1024) : iblk m c 1 t (ix2 l k) = weight m c (ix2 l k) := by
  have e : (win0_1.blk t).view.emb (ix2 l k) = ix2 l k := by
    blk_ext [places t]
  blk_simp [iblk]
  exact (congrFun (v1_eq m c) _).trans (congrArg _ e)

theorem block_at (x0 : Vec Ideal S512x1024 .bf16) (x1 : Vec Ideal S3072x1024 .bf16) (n : Fin 512) (l : Fin 3072) :
    out0_2 x0 x1 (ix2 n l) = ∑ k : Fin 1024, x0 (ix2 n k) * x1 (ix2 l k) := by
  unfold out0_2
  frame_out
  unfold_payloads
  pointwise

/-- The reference's entry. -/
theorem math_at (x0 : FVec Ideal S8704x1024 .f32) (x1 : FVec Ideal S3072x1024 .f32) (r : Fin 8704) (l : Fin 3072) :
    Cert.InForwardMathIdeal.Read.val_main_v2 (F := Ideal) x0 x1 (ix2 r l) = ∑ k : Fin 1024, x0 (ix2 r k) * x1 (ix2 l k) := by
  pointwise [Cert.InForwardMathIdeal.Read.val_main_v2, Cert.InForwardMathIdeal.Read.val_main_v1, Cert.InForwardMathIdeal.Read.val_main_v0]

/-- The array the kernel leaves is the reference's. -/
theorem equal : (dats m 0 c).arrAt 2 cfg0.N = Cert.InForwardMathIdeal.Read.val_main_v2 (F := Ideal) (rows m c) (weight m c) := by
  refine (dats m 0 c).arrAt_eq_of_covers 2 _ (by decide +kernel) fun t _ y => ?_
  blk_simp
  rw [after0_2]
  obtain ⟨n, l, rfl⟩ : ∃ (n : Fin 512) (l : Fin 3072), y = ix2 n l := ⟨y 0, y 1, by ext a; fin_cases a <;> rfl⟩
  have e : (win0_2.blk t).view.emb (ix2 n l) = ix2 (rowAt t n) l := by
    unfold rowAt
    blk_ext [places t]
  refine (block_at _ _ n l).trans ?_
  refine Eq.trans ?_ ((congrArg _ e).trans (math_at _ _ (rowAt t n) l)).symm
  exact Finset.sum_congr rfl fun k _ => congrArg₂ _ (rows_at m c t n k) (weight_at m c t l k)

/-- The reference runs and leaves its arguments and the semaphores as they were. -/
theorem frame_math : Cert.quiescent_InForwardMathIdeal := fun m ρ _ =>
  (θ_run Cert.InForwardMathIdeal.defs _ _).mono (fun r h => ⟨fun c => (h c).2, sem_eq_zero_of_no_sems (by decide) r.2⟩)
    (Cert.InForwardMathIdeal.Value.run (F := Ideal) m ρ)

/-- The kernel's result is the reference's. -/
theorem agree : Cert.algebraic_InForwardIdeal_InForwardMathIdeal := by
  intro m g m' g' _ ha
  refine ⟨fun c => Cert.InForwardMathIdeal.Read.val_main_v2 (F := Ideal) (rows m c) (weight m c), ?_, ?_⟩
  · exact (θ_run Cert.InForwardIdeal.defs _ _).mono (fun r h c => ⟨(h c).1.trans (equal m c), (h c).2⟩) (Value.run_blocks (F := Ideal) m g)
  · refine (θ_run Cert.InForwardMathIdeal.defs _ _).mono (fun r h c => ⟨(h c).1.trans ?_, (h c).2⟩) (Cert.InForwardMathIdeal.Value.run (F := Ideal) m' g')
    obtain ⟨e0, e1⟩ := ha c
    rw [Cert.InForwardMathIdeal.Read.val_main_v2_eq, e0, e1]

end InForward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import proofs.«01_k».proof.Proof.Gen.InWeight.Frame
public import proofs.«01_k».proof.Proof.Gen.InWeightIdeal.Frame
public import proofs.«01_k».proof.Proof.Gen.InInput.Frame
public import proofs.«01_k».proof.Proof.Gen.InInputIdeal.Frame
public import proofs.«01_k».proof.Proof.Weight
public import proofs.«01_k».proof.Proof.Input
public import proofs.«01_k».proof.Proof.Gen.Attend.Frame
public import proofs.«01_k».proof.Proof.Attend
public import proofs.«01_k».proof.Proof.Gen.GateInput.Frame
public import proofs.«01_k».proof.Proof.GateInput
public import proofs.«01_k».proof.Proof.Gen.OutWeight.Frame
public import proofs.«01_k».proof.Proof.OutWeight
public import proofs.«01_k».proof.Proof.Gen.OutInput.Frame
public import proofs.«01_k».proof.Proof.OutInput
public import proofs.«01_k».proof.Proof.Gen.InForward.Frame
public import proofs.«01_k».proof.Proof.InForward
public import Idealize.ShloMosaic.Adequacy
public import Idealize.ShloMosaic.Init

@[expose] public section

noncomputable section

namespace Cert.Proof

open Idealize.ShloMosaic Idealize.SL.Sem

/-- The reference runs and leaves its arguments and the semaphores as they were. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two named constants stand for the words of the kernel. -/
theorem names_preserved : Cert.preserves_Kernel_KernelIdeal :=
  ⟨IdealRules.named_const.statement Cert.KernelIdeal.κ "ln2" .f32 0x3F317218#32 _ rfl,
    IdealRules.named_const.statement Cert.KernelIdeal.κ "mask" .f32 0xF149F2CA#32 _ rfl⟩

/-- The kernel's three gradients are the reference's. -/
theorem gradients_equal : Cert.algebraic_KernelIdeal_ReferenceIdeal_pre_finite := by
  intro m g m' g' hf ha
  refine ⟨fun c => Cert.ReferenceIdeal.Read.val_main_v84 (F := Ideal) (Final.a0 m c) (Final.a1 m c) (Final.a2 m c) (Final.a3 m c),
    fun c => Cert.ReferenceIdeal.Read.val_main_v87 (F := Ideal) (Final.a0 m c) (Final.a1 m c) (Final.a2 m c) (Final.a3 m c),
    fun c => Cert.ReferenceIdeal.Read.val_main_v89 (F := Ideal) (Final.a0 m c) (Final.a1 m c) (Final.a3 m c), ?_, ?_⟩
  · refine (θ_run Cert.KernelIdeal.defs _ _).mono (fun r h c => ?_) (Cert.KernelIdeal.Value.run_blocks (F := Ideal) m g)
    have W := Final.reals_of_finite m c hf
    exact ⟨(h c).1.trans (Final.queries_eq W), (h c).2.1.trans (Final.keys_eq W), (h c).2.2.1.trans (Final.values_eq W), (h c).2.2.2⟩
  · refine (θ_run Cert.ReferenceIdeal.defs _ _).mono (fun r h c => ?_) (Cert.ReferenceIdeal.Value.run (F := Ideal) m' g')
    obtain ⟨e0, e1, e2, e3⟩ := ha c
    refine ⟨(h c).1.trans ?_, (h c).2.1.trans ?_, (h c).2.2.1.trans ?_, (h c).2.2.2⟩
    · rw [Cert.ReferenceIdeal.Read.val_main_v84_eq, e0, e1, e2, e3]
    · rw [Cert.ReferenceIdeal.Read.val_main_v87_eq, e0, e1, e2, e3]
    · rw [Cert.ReferenceIdeal.Read.val_main_v89_eq, e0, e1, e3]

theorem claim : Cert.Claim := ⟨Cert.Kernel.Gen.facts, Cert.KernelIdeal.Gen.facts, Cert.ReferenceIdeal.Gen.facts, Cert.InWeight.Gen.facts,
  Cert.InWeightIdeal.Gen.facts, Cert.InWeightMathIdeal.Gen.facts, Cert.InInput.Gen.facts, Cert.InInputIdeal.Gen.facts, Cert.InInputMathIdeal.Gen.facts,
  Cert.GateInput.Gen.facts, Cert.GateInputIdeal.Gen.facts, Cert.GateInputMathIdeal.Gen.facts,
  Cert.OutWeight.Gen.facts, Cert.OutWeightIdeal.Gen.facts, Cert.OutWeightMathIdeal.Gen.facts,
  Cert.OutInput.Gen.facts, Cert.OutInputIdeal.Gen.facts, Cert.OutInputMathIdeal.Gen.facts,
  Cert.InForward.Gen.facts, Cert.InForwardIdeal.Gen.facts, Cert.InForwardMathIdeal.Gen.facts,
  Cert.Attend.Gen.facts, Cert.AttendIdeal.Gen.facts, Cert.AttendMathIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.InWeight.Gen.frame m ρ, fun m ρ _ => Cert.InWeightIdeal.Gen.frame m ρ, InWeight.frame_math,
  fun m ρ _ => Cert.InInput.Gen.frame m ρ, fun m ρ _ => Cert.InInputIdeal.Gen.frame m ρ, InInput.frame_math,
  fun m ρ _ => Cert.GateInput.Gen.frame m ρ, fun m ρ _ => Cert.GateInputIdeal.Gen.frame m ρ, GateInput.frame_math,
  fun m ρ _ => Cert.OutWeight.Gen.frame m ρ, fun m ρ _ => Cert.OutWeightIdeal.Gen.frame m ρ, OutWeight.frame_math,
  fun m ρ _ => Cert.OutInput.Gen.frame m ρ, fun m ρ _ => Cert.OutInputIdeal.Gen.frame m ρ, OutInput.frame_math,
  fun m ρ _ => Cert.InForward.Gen.frame m ρ, fun m ρ _ => Cert.InForwardIdeal.Gen.frame m ρ, InForward.frame_math,
  fun m ρ _ => Cert.Attend.Gen.frame m ρ, fun m ρ _ => Cert.AttendIdeal.Gen.frame m ρ, Attend.frame_math,
  names_preserved, gradients_equal, trivial, InWeight.agree, trivial, InInput.agree, trivial, GateInput.agree, trivial, OutWeight.agree, trivial, OutInput.agree, trivial, InForward.agree, Attend.names_preserved, Attend.agree⟩

end Cert.Proof

end
